-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S3x256x4096 : Shape := ⟨3, ![3, 256, 4096]⟩
abbrev S7 : Shape := ⟨1, ![7]⟩
abbrev S_ : Shape := ⟨0, ![]⟩
abbrev S256x4096 : Shape := ⟨2, ![256, 4096]⟩
abbrev S1x256x4096 : Shape := ⟨3, ![1, 256, 4096]⟩
abbrev S1 : Shape := ⟨1, ![1]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S512x4096, .bf16⟩
  | .hbm, ⟨1, _⟩ => ⟨S4096x256, .bf16⟩
  | .hbm, ⟨2, _⟩ => ⟨S4096x256, .f32⟩
  | .local _ .vmem, ⟨0, _⟩ => ⟨S512x4096, .bf16⟩
  | .local _ .vmem, ⟨1, _⟩ => ⟨S4096x256, .bf16⟩
  | .local _ .vmem, ⟨2, _⟩ => ⟨S4096x256, .f32⟩
  | .local _ .vmem, ⟨3, _⟩ => ⟨S3x256x4096, .bf16⟩
  | .local _ .vmem, ⟨4, _⟩ => ⟨S3x256x4096, .bf16⟩
  | .local _ .vmem, ⟨5, _⟩ => ⟨S4096x256, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 3 31 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_36 : BitVec 32 := 1#32
  let v46 : BitVec 32 := Scalar.muli v25 c1_i32_36
  let v47 : BitVec 32 := Scalar.addi c0_i32_37 v46
  v47.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_46 : BitVec 32 := 1#32
  let v56 : BitVec 32 := Scalar.muli v14 c1_i32_46
  let v57 : BitVec 32 := Scalar.addi c0_i32_47 v56
  v57.toNat
def k0_off1 (d0 : Dev nD) (c0_i32_52 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v66 : BitVec 32 := Scalar.subi v2 c0_i32_52
  let c8_i32_53 : BitVec 32 := 8#32
  let c0_i32_54 : BitVec 32 := 0#32
  let v67 : BitVec 1 := Scalar.cmpi .eq c8_i32_53 c0_i32_54
  let c1_i32_55 : BitVec 32 := 1#32
  let v68 : BitVec 32 := Scalar.select v67 c1_i32_55 c8_i32_53
  let v69 : BitVec 32 := Scalar.remsi v66 v68
  let c0_i32_57 : BitVec 32 := 0#32
  let v71 : BitVec 1 := Scalar.cmpi .slt v69 c0_i32_57
  let c0_i32_58 : BitVec 32 := 0#32
  let v72 : BitVec 1 := Scalar.cmpi .slt v68 c0_i32_58
  let v73 : BitVec 1 := Scalar.xori v71 v72
  let c0_i32_56 : BitVec 32 := 0#32
  let v70 : BitVec 1 := Scalar.cmpi .ne v69 c0_i32_56
  let v74 : BitVec 1 := Scalar.andi v73 v70
  let v75 : BitVec 32 := Scalar.addi v69 v68
  let v76 : BitVec 32 := Scalar.select v74 v75 v69
  let c512_i32 : BitVec 32 := 512#32
  let v94 : BitVec 32 := Scalar.muli v76 c512_i32
  let v95 : Index := Scalar.indexCast v94
  let c0_72 : Index := 0#32
  ![v95.toNat, 0]
def k0_off2 (d0 : Dev nD) (c0_i32_59 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v77 : BitVec 32 := Scalar.addi v2 c0_i32_59
  let c8_i32_60 : BitVec 32 := 8#32
  let c0_i32_61 : BitVec 32 := 0#32
  let v78 : BitVec 1 := Scalar.cmpi .eq c8_i32_60 c0_i32_61
  let c1_i32_62 : BitVec 32 := 1#32
  let v79 : BitVec 32 := Scalar.select v78 c1_i32_62 c8_i32_60
  let v80 : BitVec 32 := Scalar.remsi v77 v79
  let c0_i32_64 : BitVec 32 := 0#32
  let v82 : BitVec 1 := Scalar.cmpi .slt v80 c0_i32_64
  let c0_i32_65 : BitVec 32 := 0#32
  let v83 : BitVec 1 := Scalar.cmpi .slt v79 c0_i32_65
  let v84 : BitVec 1 := Scalar.xori v82 v83
  let c0_i32_63 : BitVec 32 := 0#32
  let v81 : BitVec 1 := Scalar.cmpi .ne v80 c0_i32_63
  let v85 : BitVec 1 := Scalar.andi v84 v81
  let v86 : BitVec 32 := Scalar.addi v80 v79
  let v87 : BitVec 32 := Scalar.select v85 v86 v80
  let c512_i32_80 : BitVec 32 := 512#32
  let v103 : BitVec 32 := Scalar.muli v87 c512_i32_80
  let c256_i32 : BitVec 32 := 256#32
  let v104 : BitVec 32 := Scalar.addi v103 c256_i32
  let v105 : Index := Scalar.indexCast v104
  let c0_81 : Index := 0#32
  ![v105.toNat, 0]
def k0_dev5 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_101 : BitVec 32 := 1#32
  let v119 : BitVec 32 := Scalar.muli v14 c1_i32_101
  let v120 : BitVec 32 := Scalar.addi c0_i32_102 v119
  v120.toNat
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_104 : BitVec 32 := 1#32
  let v121 : BitVec 32 := Scalar.muli v25 c1_i32_104
  let v122 : BitVec 32 := Scalar.addi c0_i32_105 v121
  v122.toNat
def k0_dev7 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_130 : BitVec 32 := 1#32
  let v139 : BitVec 32 := Scalar.muli v25 c1_i32_130
  let v140 : BitVec 32 := Scalar.addi c0_i32_131 v139
  v140.toNat
def k0_dev8 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_140 : BitVec 32 := 1#32
  let v149 : BitVec 32 := Scalar.muli v14 c1_i32_140
  let v150 : BitVec 32 := Scalar.addi c0_i32_141 v149
  v150.toNat
def k0_dev9 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_197 : BitVec 32 := 1#32
  let v212 : BitVec 32 := Scalar.muli v14 c1_i32_197
  let v213 : BitVec 32 := Scalar.addi c0_i32_198 v212
  v213.toNat
def k0_dev10 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_200 : BitVec 32 := 1#32
  let v214 : BitVec 32 := Scalar.muli v25 c1_i32_200
  let v215 : BitVec 32 := Scalar.addi c0_i32_201 v214
  v215.toNat
def k0_dev11 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_230 : BitVec 32 := 1#32
  let v232 : BitVec 32 := Scalar.muli v25 c1_i32_230
  let v233 : BitVec 32 := Scalar.addi c0_i32_231 v232
  v233.toNat
def k0_dev12 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_240 : BitVec 32 := 1#32
  let v242 : BitVec 32 := Scalar.muli v14 c1_i32_240
  let v243 : BitVec 32 := Scalar.addi c0_i32_241 v242
  v243.toNat
def k0_dev13 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_297 : BitVec 32 := 1#32
  let v305 : BitVec 32 := Scalar.muli v14 c1_i32_297
  let v306 : BitVec 32 := Scalar.addi c0_i32_298 v305
  v306.toNat
def k0_dev14 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_300 : BitVec 32 := 1#32
  let v307 : BitVec 32 := Scalar.muli v25 c1_i32_300
  let v308 : BitVec 32 := Scalar.addi c0_i32_301 v307
  v308.toNat
def k0_dev15 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_329 : BitVec 32 := 1#32
  let v325 : BitVec 32 := Scalar.muli v25 c1_i32_329
  let v326 : BitVec 32 := Scalar.addi c0_i32_330 v325
  v326.toNat
def k0_dev16 (d0 : Dev nD) : Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_339 : BitVec 32 := 1#32
  let v335 : BitVec 32 := Scalar.muli v14 c1_i32_339
  let v336 : BitVec 32 := Scalar.addi c0_i32_340 v335
  v336.toNat
def k0_dev17 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_397 : BitVec 32 := 1#32
  let v398 : BitVec 32 := Scalar.muli v14 c1_i32_397
  let v399 : BitVec 32 := Scalar.addi c0_i32_398 v398
  v399.toNat
def k0_dev18 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_400 : BitVec 32 := 1#32
  let v400 : BitVec 32 := Scalar.muli v25 c1_i32_400
  let v401 : BitVec 32 := Scalar.addi c0_i32_401 v400
  v401.toNat
def k0_dev19 (d0 : Dev nD) : Nat :=
  let c0_i32_430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_429 : BitVec 32 := 1#32
  let v418 : BitVec 32 := Scalar.muli v25 c1_i32_429
  let v419 : BitVec 32 := Scalar.addi c0_i32_430 v418
  v419.toNat
def k0_dev20 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_439 : BitVec 32 := 1#32
  let v428 : BitVec 32 := Scalar.muli v14 c1_i32_439
  let v429 : BitVec 32 := Scalar.addi c0_i32_440 v428
  v429.toNat
def k0_dev21 (d0 : Dev nD) : Nat :=
  let c0_i32_498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_497 : BitVec 32 := 1#32
  let v491 : BitVec 32 := Scalar.muli v14 c1_i32_497
  let v492 : BitVec 32 := Scalar.addi c0_i32_498 v491
  v492.toNat
def k0_dev22 (d0 : Dev nD) : Nat :=
  let c0_i32_501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_500 : BitVec 32 := 1#32
  let v493 : BitVec 32 := Scalar.muli v25 c1_i32_500
  let v494 : BitVec 32 := Scalar.addi c0_i32_501 v493
  v494.toNat
def k0_dev23 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_529 : BitVec 32 := 1#32
  let v511 : BitVec 32 := Scalar.muli v25 c1_i32_529
  let v512 : BitVec 32 := Scalar.addi c0_i32_530 v511
  v512.toNat
def k0_dev24 (d0 : Dev nD) : Nat :=
  let c0_i32_540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_539 : BitVec 32 := 1#32
  let v521 : BitVec 32 := Scalar.muli v14 c1_i32_539
  let v522 : BitVec 32 := Scalar.addi c0_i32_540 v521
  v522.toNat
def k0_dev25 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_623 : BitVec 32 := 1#32
  let v600 : BitVec 32 := Scalar.muli v25 c1_i32_623
  let v601 : BitVec 32 := Scalar.addi c0_i32_624 v600
  v601.toNat
def k0_dev26 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_633 : BitVec 32 := 1#32
  let v610 : BitVec 32 := Scalar.muli v14 c1_i32_633
  let v611 : BitVec 32 := Scalar.addi c0_i32_634 v610
  v611.toNat
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KernelIdeal.Prog.lean ====
/-
  The kernel body read as a protocol: a prologue (the barrier with both neighbours, the copies of the
  weight block and of the two halves of the own activation block into scratch), seven hops of one shape,
  and a last product. `body_eq` says that the printed body IS this text.
-/
module

public import proofs.«01_k».proof.Proof.Gen.KernelIdeal.Skeleton

@[expose] public section

noncomputable section

namespace Cert.KernelIdeal.Hand

open Idealize.ShloMosaic Idealize.SL.Sem
open Cert.KernelIdeal Cert.KernelIdeal.Gen

variable {F : FTy → Type} [FloatOps F]

/-! ## The buffers, their slots, the semaphores -/

/-- The staging buffers of the activation block, the weight block and the result block. -/
abbrev xM : Memref sig .tc .vmem S512x4096 .bf16 := Memref.whole cc0_stg0_0
abbrev wM : Memref sig .tc .vmem S4096x256 .bf16 := Memref.whole cc0_stg1_0
abbrev oM : Memref sig .tc .vmem S4096x256 .f32 := Memref.whole cc0_stg2_0
/-- The two rings' buffers of three slots, and the scratch copy of the weight block. -/
abbrev aM : Memref sig .tc .vmem S3x256x4096 .bf16 := Memref.whole cc0_scratch0
abbrev bM : Memref sig .tc .vmem S3x256x4096 .bf16 := Memref.whole cc0_scratch1
abbrev vM : Memref sig .tc .vmem S4096x256 .bf16 := Memref.whole cc0_scratch2

/-- A slot lies inside the buffer of three. -/
theorem inbSlot (k : Fin 3) : ∀ a, (![k.val, 0, 0] : Fin 3 → Nat) a + S1x256x4096.size a ≤ S3x256x4096.size a := by
  revert k; decide

/-- The rectangle of slot `k`. -/
abbrev slotR (k : Fin 3) : Rect S3x256x4096 := Rect.unit (s := S3x256x4096) ![k.val, 0, 0] S1x256x4096.size (inbSlot k)

/-- Slot `k` of a buffer of three, as the remote copies name it. -/
abbrev slotM (b : Memref sig .tc .vmem S3x256x4096 .bf16) (k : Fin 3) : Memref sig .tc .vmem S256x4096 .bf16 :=
  (b.slice (slotR k) (fun _ => rfl)).squeeze S256x4096 squeezes_S1x256x4096_S256x4096

/-- A slot is made of whole words. -/
theorem wordsSlot (k : Fin 3) : (slotR k).WholeWords (EltTy.packing .bf16) := by
  fin_cases k
  · exact wordsbf16_S3x256x4096_S1x256x4096_0_0_0
  · exact wordsbf16_S3x256x4096_S1x256x4096_1_0_0
  · exact wordsbf16_S3x256x4096_S1x256x4096_2_0_0

/-- A slot of a whole buffer starts and ends on word boundaries. -/
theorem exactSlot {b : Memref sig .tc .vmem S3x256x4096 .bf16} (hb : b.IsWhole) (k : Fin 3) : (slotM b k).view.WordExact :=
  (hb.wordExact_slice rfl _ (wordsSlot k)).reshape _ _

/-- Element `h` of an array of seven semaphores lies in it. -/
theorem inbSem (h : Fin 7) : ∀ a, (![h.val] : Fin 1 → Nat) a + S1.size a ≤ S7.size a := by
  revert h; decide

/-- Semaphore `h` of an array of seven. -/
abbrev semAt (s : DmaSems sig S7) (h : Fin 7) : DmaSem sig :=
  ((s.slice (Rect.unit (s := S7) ![h.val] S1.size (inbSem h))).squeeze S_ squeezes_S1_S_).sem

/-- The runtime's barrier semaphore. -/
abbrev barS : Sem sig := (SemArray.scalar (sig.barrier 0 rfl) : Sems sig S_).sem

/-- The ring `s`: its buffer, its semaphores. Ring `false` (A) passes blocks to the next device, ring `true` (B) to the previous one. -/
def buf : Bool → Memref sig .tc .vmem S3x256x4096 .bf16
  | false => aM
  | true => bM
/-- Either ring's buffer is a whole array. -/
theorem bufWhole (s : Bool) : (buf s).IsWhole := by cases s <;> exact Memref.isWhole_whole _
/-- The memref remote copies of ring `s` name at slot `k`. -/
abbrev slot (s : Bool) (k : Fin 3) : Memref sig .tc .vmem S256x4096 .bf16 := slotM (buf s) k
def sndA : Bool → DmaSems sig S7
  | false => cc0_scratch3
  | true => cc0_scratch5
def rcvA : Bool → DmaSems sig S7
  | false => cc0_scratch4
  | true => cc0_scratch6
/-- Hop `h`'s send and receive semaphores of ring `s`, and the ring's semaphore counting freed slots. -/
def sndS (s : Bool) (h : Fin 7) : DmaSem sig := semAt (sndA s) h
def rcvS (s : Bool) (h : Fin 7) : DmaSem sig := semAt (rcvA s) h
def crdS : Bool → Sem sig
  | false => cc0_scratch7.sem
  | true => cc0_scratch8.sem

/-- A slot does not lie in a SparseCore's scratch. -/
theorem slot_hbm (s : Bool) (k : Fin 3) (d : Dev nD) :
    (slot s k : Memref sig (Dev.tc d : Thread nD τ).2.kind .vmem S256x4096 .bf16).view.ref.isScScratch = false := by
  cases s <;> rfl

/-- The rows ring `s`'s block of hop `h` is multiplied into. -/
def offS (s : Bool) (c : Dev nD) (h : Fin 8) : Fin 2 → ℕ :=
  match s with
  | false => k0_off1 c (BitVec.ofNat 32 h.val)
  | true => k0_off2 c (BitVec.ofNat 32 h.val)
/-- The row block a product is stored to lies in the result array. -/
theorem offS_inb (s : Bool) (c : Dev nD) (h : Fin 8) : ∀ a, offS s c h a + S256x256.size a ≤ S4096x256.size a := by
  cases s
  · exact k0_off1_inb c h
  · exact k0_off2_inb c h

/-- The slot the block of hop `h` is read from, and the next one. -/
def cur (h : Fin 8) : Fin 3 := ⟨h.val % 3, Nat.mod_lt _ (by decide)⟩
def nxtSlot (h : Fin 7) : Fin 3 := ⟨(h.val + 1) % 3, Nat.mod_lt _ (by decide)⟩

/-! ## The product -/

/-- The rectified product of 256 rows with the weight block. -/
def gemm (v : Vec F S1x256x4096 .bf16) (w : Vec F S4096x256 .bf16) : FVec F S256x256 .f32 :=
  maximumf (matmul dot_S256x4096_S4096x256_S256x256_1_0_0_1_n_n none
    (shapeCast S256x4096 v shapeCasts_S1x256x4096_S256x4096 : FVec F S256x4096 .bf16) w (constant S256x256 .f32 0x00000000#32))
    (broadcast S256x256 (Scalar.ofBits .f32 0x00000000#32 : F .f32))

/-! ## The body in pieces -/

/-- The programs of a core of this kernel. -/
abbrev P (F : FTy → Type) [FloatOps F] : Type → Type 1 := Prog (TpuEff nD τ sig (Elt F) Λ₀ .tc)

/-- Both neighbours' barrier semaphores are raised, then the own one is waited for. -/
def barrier (dl dr : Dev nD) : P F PUnit := do
  semSignalWord dl barS 1#32
  semSignalWord dr barS 1#32
  semWaitWord barS 2#32

/-- The weight block is copied to scratch, and the two halves of the activation block into slot 0 of the two rings. -/
def fill : P F PUnit := do
  let v31 : Vec F S4096x256 .bf16 ← Prog.lift (.load wM (Rect.unit (s := S4096x256) ![0, 0] S4096x256.size inb_S4096x256_S4096x256_0_0).toLoadRect (View.loadsAt_vmem h_S4096x256))
  let v33 : Vec F S4096x256 .bf16 ← Prog.lift (.load vM (Rect.unit (s := S4096x256) ![0, 0] S4096x256.size inb_S4096x256_S4096x256_0_0).toLoadRect (View.loadsAt_vmem h_S4096x256))
  Prog.lift (.store vM (Rect.unit (s := S4096x256) ![0, 0] S4096x256.size inb_S4096x256_S4096x256_0_0) (k0_pay2 v31) Finset.univ (View.stores_vmem h_S4096x256 ((Memref.isWhole_whole _).storeExact_slice rfl _ packedbf16_S4096x256_S4096x256_0_0) (fun _ => rfl)) (.inl rfl))
  let v36 : Vec F S256x4096 .bf16 ← Prog.lift (.load xM (Rect.unit (s := S512x4096) ![0, 0] S256x4096.size inb_S512x4096_S256x4096_0_0).toLoadRect (View.loadsAt_vmem h_S256x4096))
  let v38 : Vec F S1x256x4096 .bf16 ← Prog.lift (.load aM (slotR 0).toLoadRect (View.loadsAt_vmem h_S1x256x4096))
  Prog.lift (.store aM (slotR 0) (k0_pay3 v36) Finset.univ (View.stores_vmem h_S1x256x4096 ((Memref.isWhole_whole _).storeExact_slice rfl _ packedbf16_S3x256x4096_S1x256x4096_0_0_0) (fun _ => rfl)) (.inl rfl))
  let v41 : Vec F S256x4096 .bf16 ← Prog.lift (.load xM (Rect.unit (s := S512x4096) ![256, 0] S256x4096.size inb_S512x4096_S256x4096_256_0).toLoadRect (View.loadsAt_vmem h_S256x4096))
  let v43 : Vec F S1x256x4096 .bf16 ← Prog.lift (.load bM (slotR 0).toLoadRect (View.loadsAt_vmem h_S1x256x4096))
  Prog.lift (.store bM (slotR 0) (k0_pay4 v41) Finset.univ (View.stores_vmem h_S1x256x4096 ((Memref.isWhole_whole _).storeExact_slice rfl _ packedbf16_S3x256x4096_S1x256x4096_0_0_0) (fun _ => rfl)) (.inl rfl))

/-- Start hop `h`'s remote copy of ring `s`: the slot in use to the next slot of the same buffer on device `d`. -/
def start (s : Bool) (h : Fin 7) (d : Dev nD) : P F PUnit :=
  Prog.lift (.enqueueDma (slot s (cur h.castSucc)) (.remote (Dev.tc d) (slot s (nxtSlot h)) (.dma (sndS s h)) (slot_hbm s _ d)) (.dma (rcvS s h))
    (exactSlot (bufWhole s) _) (exactSlot (bufWhole s) _) ⟨⟨rfl, Or.inl rfl⟩, trivial⟩)

/-- Multiply the slot in use of ring `s` by the weight block and store the rectified product. -/
def product (s : Bool) (c : Dev nD) (h : Fin 8) : P F PUnit := do
  let v ← Prog.lift (.load (buf s) (slotR (cur h)).toLoadRect (View.loadsAt_vmem h_S1x256x4096))
  let w ← Prog.lift (.load vM (Rect.unit (s := S4096x256) ![0, 0] S4096x256.size inb_S4096x256_S4096x256_0_0).toLoadRect (View.loadsAt_vmem h_S4096x256))
  let old ← Prog.lift (.load oM (Rect.unit (s := S4096x256) (offS s c h) S256x256.size (offS_inb s c h)).toLoadRect (View.loadsAt_vmem h_S256x256))
  Prog.lift (.store oM (Rect.unit (s := S4096x256) (offS s c h) S256x256.size (offS_inb s c h)) (gemm v w) Finset.univ (View.stores_vmem_bits_univ h_S256x256 rfl) (.inl rfl))

/-- Wait for hop `h`'s copy out of ring `s` to have left. -/
def awaitSent (s : Bool) (h : Fin 7) : P F PUnit :=
  Prog.lift (.waitDma2 (sndS s h) (slot s (nxtSlot h)) (slot s (cur h.castSucc)) (exactSlot (bufWhole s) _) (exactSlot (bufWhole s) _))

/-- Wait for hop `h`'s block to have landed. -/
def awaitLanded (s : Bool) (h : Fin 7) : P F PUnit :=
  Prog.lift (.waitDma2 (rcvS s h) (slot s (cur h.castSucc)) (slot s (nxtSlot h)) (exactSlot (bufWhole s) _) (exactSlot (bufWhole s) _))

/-- The middle of a hop: both copies started (to `da` around ring A, `db` around ring B), the products, both copies' sources given back. -/
def hopBody (c : Dev nD) (h : Fin 7) (da db : Dev nD) : P F PUnit := do
  start false h da
  start true h db
  product false c h.castSucc
  product true c h.castSucc
  awaitSent false h
  awaitSent true h

/-- The end of a hop: the next blocks have landed. -/
def hopTail (h : Fin 7) : P F PUnit := do
  awaitLanded false h
  awaitLanded true h

/-- Wait for the neighbours' word that the slots about to be written are free. -/
def credWait : P F PUnit := do
  semWaitWord (crdS false) 1#32
  semWaitWord (crdS true) 1#32

/-- Tell the neighbours that the slots just sent from are free. -/
def credSignal (dl dr : Dev nD) : P F PUnit := do
  semSignalWord dl (crdS false) 1#32
  semSignalWord dr (crdS true) 1#32

/-- The whole body. -/
def body : P F PUnit := do
  let c : Dev nD ← Prog.lift .deviceId
  barrier ⟨k0_dev1 c, k0_dev1_lt c⟩ ⟨k0_dev2 c, k0_dev2_lt c⟩
  fill
  hopBody c 0 ⟨k0_dev3 c, k0_dev3_lt c⟩ ⟨k0_dev4 c, k0_dev4_lt c⟩
  credSignal ⟨k0_dev5 c, k0_dev5_lt c⟩ ⟨k0_dev6 c, k0_dev6_lt c⟩
  hopTail 0
  hopBody c 1 ⟨k0_dev7 c, k0_dev7_lt c⟩ ⟨k0_dev8 c, k0_dev8_lt c⟩
  credSignal ⟨k0_dev9 c, k0_dev9_lt c⟩ ⟨k0_dev10 c, k0_dev10_lt c⟩
  hopTail 1
  credWait
  hopBody c 2 ⟨k0_dev11 c, k0_dev11_lt c⟩ ⟨k0_dev12 c, k0_dev12_lt c⟩
  credSignal ⟨k0_dev13 c, k0_dev13_lt c⟩ ⟨k0_dev14 c, k0_dev14_lt c⟩
  hopTail 2
  credWait
  hopBody c 3 ⟨k0_dev15 c, k0_dev15_lt c⟩ ⟨k0_dev16 c, k0_dev16_lt c⟩
  credSignal ⟨k0_dev17 c, k0_dev17_lt c⟩ ⟨k0_dev18 c, k0_dev18_lt c⟩
  hopTail 3
  credWait
  hopBody c 4 ⟨k0_dev19 c, k0_dev19_lt c⟩ ⟨k0_dev20 c, k0_dev20_lt c⟩
  credSignal ⟨k0_dev21 c, k0_dev21_lt c⟩ ⟨k0_dev22 c, k0_dev22_lt c⟩
  hopTail 4
  credWait
  hopBody c 5 ⟨k0_dev23 c, k0_dev23_lt c⟩ ⟨k0_dev24 c, k0_dev24_lt c⟩
  hopTail 5
  credWait
  hopBody c 6 ⟨k0_dev25 c, k0_dev25_lt c⟩ ⟨k0_dev26 c, k0_dev26_lt c⟩
  hopTail 6
  product false c 7
  product true c 7

set_option maxRecDepth 65536 in
set_option maxHeartbeats 4000000 in
/-- The printed body is this text. -/
theorem body_eq :
    cc0_body (F := F) xM (Memref.isWhole_whole _) wM (Memref.isWhole_whole _) oM (Memref.isWhole_whole _)
      aM (Memref.isWhole_whole _) bM (Memref.isWhole_whole _) vM (Memref.isWhole_whole _)
      cc0_scratch3 cc0_scratch4 cc0_scratch5 cc0_scratch6 cc0_scratch7 cc0_scratch8 = body (F := F) := rfl

end Cert.KernelIdeal.Hand

end
-- ==== Proof.KernelIdeal.Common.lean ====
/-
  The protocol of the kernel, written down.

  Eight devices in a circle pass blocks of the activations around two rings at once: ring `false` (A) sends
  the upper half of a device's rows to the next device, ring `true` (B) the lower half to the previous one.
  `fwd s` is the device a copy of ring `s` goes to, `bwd s` the one it comes from. Each ring has a buffer of
  three slots; hop `h` reads slot `h % 3`, sends it to slot `(h + 1) % 3` of the device ahead and multiplies
  it by the device's weight block. Device `c` holds at hop `h` of ring `s` the block of device `srcOf s c h`.

  Semaphores of device `c`, who raises them, what a unit hands over:
    barrier      each neighbour once: the neighbour's two empty slots of the ring in which `c` sends to it;
    send `s h`   the own copy of hop `h` (the credit of a slot): the half share of the slot lent to the copy;
    recv `s h`   the copy of hop `h` of the device behind: the slot holding the block of hop `h + 1`;
    credit `s`   the device ahead, at each of its hops 0 … 4: that it has given up the slots of the hops so far.
                 Five units in one round; they may run ahead of the waits, so unit `j` carries the whole
                 history up to hop `j` and the waiting device finds the hop it needs in one of the units.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.KernelIdeal.Prog
public import Idealize.ShloMosaic.Lib.Pipeline.Launch
public import Idealize.ShloMosaic.Lib.Pipeline.Kit
public import Idealize.ShloMosaic.Lib.Tactic
public import Idealize.ShloMosaic.Lib.Release
public import Idealize.ShloMosaic.Lib.MemrefSat
public import Idealize.ShloMosaic.Lib.Ring

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's part, the rounds of the cells, the released slots -/

/-- A slot given up by device `e` of ring `s` after hop `j`. -/
abbrev Key : Type := Dev nD × Bool × Fin 5
abbrev UB : Type := URounds (GSem nD τ sig) (Fin 5)
abbrev UK : Type := Release.USlots Key
abbrev UU : Type := UR sig nD τ × (UB × UK)

local notation "𝕄" => MT nD τ sig ℕ (Elt F) ℕ UU ℕ

abbrev EP : Emb (UR sig nD τ) (MT nD τ sig ℕ (Elt F) ℕ UU ℕ) := embL
abbrev EB : Emb (UB × UK) (MT nD τ sig ℕ (Elt F) ℕ UU ℕ) := embR
abbrev ER : Emb UB (MT nD τ sig ℕ (Elt F) ℕ UU ℕ) := (Emb.inl : Emb UB (UB × UK)).trans embR
abbrev ES : Emb UK (MT nD τ sig ℕ (Elt F) ℕ UU ℕ) := (Emb.inr : Emb UK (UB × UK)).trans embR

variable (m : (ℓ : Loc nD τ sig) → Buf (Elt F) ℓ)

/-! ## The circle -/

def nxt (c : Dev nD) : Dev nD := ⟨(c.val + 1) % 8, Nat.mod_lt _ (by decide)⟩
def prv (c : Dev nD) : Dev nD := ⟨(c.val + 7) % 8, Nat.mod_lt _ (by decide)⟩
/-- The device a copy of ring `s` goes to, -/
def fwd (s : Bool) (c : Dev nD) : Dev nD := if s then prv c else nxt c
/-- and the one it comes from. -/
def bwd (s : Bool) (c : Dev nD) : Dev nD := if s then nxt c else prv c

/-- One step ahead and one back. -/
theorem bwd_fwd (s : Bool) (c : Dev nD) : bwd s (fwd s c) = c := by revert s c; decide
/-- One step back and one ahead. -/
theorem fwd_bwd (s : Bool) (c : Dev nD) : fwd s (bwd s c) = c := by revert s c; decide
/-- Ahead on the other ring is back on this one. -/
theorem fwd_not (s : Bool) (c : Dev nD) : fwd (!s) c = bwd s c := by revert s c; decide

def ringE (s : Bool) : Dev nD ≃ Dev nD := ⟨fwd s, bwd s, bwd_fwd s, fwd_bwd s⟩

/-- The device whose block ring `s` shows device `c` at hop `h`. -/
def srcOf (s : Bool) (c : Dev nD) (h : Fin 8) : Dev nD :=
  ⟨(if s then c.val + h.val else c.val + 8 - h.val) % 8, Nat.mod_lt _ (by decide)⟩

/-- At hop 0 a device holds its own block. -/
theorem srcOf_zero (s : Bool) (c : Dev nD) : srcOf s c 0 = c := by revert s c; decide
/-- The device ahead holds at the next hop what this one holds now. -/
theorem srcOf_fwd (s : Bool) (c : Dev nD) (h : Fin 7) : srcOf s (fwd s c) h.succ = srcOf s c h.castSucc := by
  revert s c h; decide

/-! ## The cells -/

abbrev barC (c : Dev nD) : GSem nD τ sig := ((c : Thread nD τ), .reg barS)
abbrev crdC (s : Bool) (c : Dev nD) : GSem nD τ sig := ((c : Thread nD τ), .reg (crdS s))
abbrev sndC (s : Bool) (h : Fin 7) (c : Dev nD) : GSem nD τ sig := ((c : Thread nD τ), .dma (sndS s h))
abbrev rcvC (s : Bool) (h : Fin 7) (c : Dev nD) : GSem nD τ sig := ((c : Thread nD τ), .dma (rcvS s h))

/-- What a semaphore is for. -/
inductive Role where
  | bar
  | crd (s : Bool)
  | snd (s : Bool) (h : Fin 7)
  | rcv (s : Bool) (h : Fin 7)
  | other

def role : SemLoc sig → Role
  | .reg q => if q = barS then .bar else if q = crdS false then .crd false else if q = crdS true then .crd true else .other
  | .dma q =>
    if h0 : q.val < 3 then .other
    else if h1 : q.val < 10 then .snd false ⟨q.val - 3, by omega⟩
    else if h2 : q.val < 17 then .rcv false ⟨q.val - 10, by omega⟩
    else if h3 : q.val < 24 then .snd true ⟨q.val - 17, by omega⟩
    else if h4 : q.val < 31 then .rcv true ⟨q.val - 24, by omega⟩
    else .other

/-- The barrier's role. -/
theorem role_bar : role (.reg barS) = .bar := rfl
/-- A credit semaphore's role. -/
theorem role_crd (s : Bool) : role (.reg (crdS s)) = .crd s := by cases s <;> rfl
/-- A send semaphore's role. -/
theorem role_snd (s : Bool) (h : Fin 7) : role (.dma (sndS s h)) = .snd s h := by cases s <;> fin_cases h <;> rfl
/-- A receive semaphore's role. -/
theorem role_rcv (s : Bool) (h : Fin 7) : role (.dma (rcvS s h)) = .rcv s h := by cases s <;> fin_cases h <;> rfl

/-- The credit of one slot's copy. -/
def N (s : Bool) : ℕ := (slot s 0).view.dmaCredit
/-- A slot's copy has a positive credit. -/
theorem N_pos (s : Bool) : 0 < N s := View.dmaCredit_pos _ (by decide)
/-- All slots of a ring have the same credit. -/
theorem N_eq (s : Bool) (k : Fin 3) : (slot s k).view.dmaCredit = N s := by cases s <;> fin_cases k <;> rfl

/-! ## Contents -/

/-- Device `c`'s activation block and weight block, staged. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The two halves of the activation block's rows. -/
abbrev xR : Bool → Rect S512x4096
  | false => Rect.unit (s := S512x4096) ![0, 0] S256x4096.size inb_S512x4096_S256x4096_0_0
  | true => Rect.unit (s := S512x4096) ![256, 0] S256x4096.size inb_S512x4096_S256x4096_256_0

/-- Half `s` of device `d`'s activation block. -/
def half (s : Bool) (d : Dev nD) : Vec F S256x4096 .bf16 :=
  match s with
  | false => xM.view.readAt (Elt F) (xR false).toLoadRect (xstg m d)
  | true => xM.view.readAt (Elt F) (xR true).toLoadRect (xstg m d)

/-- What ring `s` shows device `c` at hop `h`. -/
def blkX (s : Bool) (c : Dev nD) (h : Fin 8) : Vec F S256x4096 .bf16 := half m s (srcOf s c h)

/-- What ring `s` shows the device ahead at the next hop is what it shows this device now. -/
theorem blkX_fwd (s : Bool) (c : Dev nD) (h : Fin 7) : blkX m s (fwd s c) h.succ = blkX m s c h.castSucc := by
  unfold blkX; rw [srcOf_fwd]

/-! ## The slots -/

/-- Slot `k` of ring `s` on device `c`, owned whole with any contents, -/
abbrev slotAny (c : Dev nD) (s : Bool) (k : Fin 3) : sProp 𝕄 :=
  Release.slot ((slot s k).view.loc (c : Thread nD τ)) (slot s k).view.set
/-- and owned at share `q` with contents `X`. -/
abbrev slotOwn (c : Dev nD) (s : Bool) (k : Fin 3) (q : PosShare TreeShare) (X : Vec F S256x4096 .bf16) : sProp 𝕄 :=
  owns (c : Thread nD τ) (slot s k) q X

/-- A slot with known contents is a slot with some contents. -/
theorem slotAny_of_own (c : Dev nD) (s : Bool) (k : Fin 3) (X : Vec F S256x4096 .bf16) :
    slotOwn c s k fullShare X ⊢ (slotAny c s k : sProp 𝕄) := by
  unfold slotOwn slotAny owns Release.slot
  iintro ⟨%f, -, H⟩
  iexists f; iexact H

/-! ## The schedule of the cells -/

/-- The key of the slot given up by device `e` of ring `s` after hop `j`, and its slot. -/
def slotK (k : Key) : sProp 𝕄 := slotAny k.1 k.2.1 (cur ⟨k.2.2.val, by omega⟩)

/-- What the barrier's unit of ring `s` hands device `c`: the device ahead's two empty slots. -/
def barPay (s : Bool) (c : Dev nD) : sProp 𝕄 := iprop(slotAny (fwd s c) s 1 ∗ slotAny (fwd s c) s 2)
/-- What unit `j` of a credit cell tells: the device `e` has given up the slots of the hops up to `j`. -/
def relPay (e : Dev nD) (s : Bool) (j : Fin 5) : sProp 𝕄 :=
  bigSep (Finset.univ.filter (· ≤ j)) (fun i => Release.released ES (e, s, i) 1)
def sndPay (s : Bool) (h : Fin 7) (c : Dev nD) : sProp 𝕄 := slotOwn c s (cur h.castSucc) fullShare.left (blkX m s c h.castSucc)
def rcvPay (s : Bool) (h : Fin 7) (c : Dev nD) : sProp 𝕄 := slotOwn c s (cur h.succ) fullShare (blkX m s c h.succ)

/-- The barrier duty of ring `s`. -/
def bd (s : Bool) : Fin 5 := if s then 1 else 0

def rDuties : Role → Finset (Fin 5)
  | .bar => {0, 1}
  | .crd _ => Finset.univ
  | .snd _ _ => {0}
  | .rcv _ _ => {0}
  | .other => ∅
def rAmount : Role → ℕ
  | .bar => 1
  | .crd _ => 1
  | .snd s _ => N s
  | .rcv s _ => N s
  | .other => 1
def rPay (c : Dev nD) : Role → Fin 5 → sProp 𝕄
  | .bar, d => if d = 1 then barPay true c else barPay false c
  | .crd s, d => relPay (fwd s c) s d
  | .snd s h, _ => sndPay m s h c
  | .rcv s h, _ => rcvPay m s h c
  | .other, _ => iprop(emp)

def rd : Rounds.Schedule (GSem nD τ sig) (Fin 5) 𝕄 where
  duties g r := if r = 0 ∧ g.1.2 = .tc then rDuties (role g.2) else ∅
  unitless _ := False
  amount g _ _ := rAmount (role g.2)
  payload g _ d := rPay m g.1.1 (role g.2) d
  amount_pos g _ _ _ := by
    cases role g.2 <;> first | exact Nat.one_pos | exact N_pos _

instance rPay_storable (c : Dev nD) (r : Role) (d : Fin 5) : BI.Storable (upEmb : UEmb _ 𝕄) (rPay m c r d) := by
  cases r
  · show BI.Storable upEmb (if d = 1 then barPay true c else barPay false c)
    split <;> unfold barPay <;> infer_instance
  · show BI.Storable upEmb (relPay _ _ _); unfold relPay; infer_instance
  · show BI.Storable upEmb (sndPay m _ _ _); unfold sndPay; infer_instance
  · show BI.Storable upEmb (rcvPay m _ _ _); unfold rcvPay; infer_instance
  · show BI.Storable upEmb iprop(emp); infer_instance
instance rd_payload_storable (g : GSem nD τ sig) (r : ℕ) (d : Fin 5) :
    BI.Storable (upEmb : UEmb _ 𝕄) ((rd m).payload g r d) := rPay_storable m g.1.1 (role g.2) d

section Sched
variable (c : Dev nD)

/-- The first round's duties of a semaphore are those of its role. -/
theorem duties_tc (sm : SemLoc sig) : (rd m).duties ((c : Thread nD τ), sm) 0 = rDuties (role sm) := by
  dsimp only [rd]; exact if_pos ⟨rfl, rfl⟩
/-- There is only one round. -/
theorem duties_later (g : GSem nD τ sig) : ∀ r, 1 ≤ r → (rd m).duties g r = ∅ :=
  fun r hr => by dsimp only [rd]; exact if_neg fun h => by omega
/-- A duty's amount is that of the semaphore's role. -/
theorem amount_eq (g : GSem nD τ sig) (r : ℕ) (d : Fin 5) : (rd m).amount g r d = rAmount (role g.2) := rfl
/-- A round expects the number of duties times the amount of one. -/
theorem expect_tc (sm : SemLoc sig) : (rd m).expect ((c : Thread nD τ), sm) 0 = (rDuties (role sm)).card * rAmount (role sm) := by
  unfold Schedule.expect Schedule.amountOf
  rw [duties_tc]
  exact (Finset.sum_const _).trans (smul_eq_mul _ _)

/-- The barrier has one duty per neighbour. -/
theorem duties_bar : (rd m).duties (barC c) 0 = {0, 1} := duties_tc m c _
/-- A credit semaphore has five duties. -/
theorem duties_crd (s : Bool) : (rd m).duties (crdC s c) 0 = Finset.univ := by rw [duties_tc, role_crd]; rfl
/-- A send semaphore has one duty. -/
theorem duties_snd (s : Bool) (h : Fin 7) : (rd m).duties (sndC s h c) 0 = {0} := by rw [duties_tc, role_snd]; rfl
/-- A receive semaphore has one duty. -/
theorem duties_rcv (s : Bool) (h : Fin 7) : (rd m).duties (rcvC s h c) 0 = {0} := by rw [duties_tc, role_rcv]; rfl
/-- A barrier signal counts one. -/
theorem amount_bar (d : Fin 5) : (rd m).amount (barC c) 0 d = 1 := rfl
/-- A credit counts one. -/
theorem amount_crd (s : Bool) (d : Fin 5) : (rd m).amount (crdC s c) 0 d = 1 := by rw [amount_eq, role_crd]; rfl
/-- A send counts a slot's credit. -/
theorem amount_snd (s : Bool) (h : Fin 7) (d : Fin 5) : (rd m).amount (sndC s h c) 0 d = N s := by rw [amount_eq, role_snd]; rfl
/-- A landing counts a slot's credit. -/
theorem amount_rcv (s : Bool) (h : Fin 7) (d : Fin 5) : (rd m).amount (rcvC s h c) 0 d = N s := by rw [amount_eq, role_rcv]; rfl
/-- The barrier expects two. -/
theorem expect_bar : (rd m).expect (barC c) 0 = 2 := expect_tc m c _
/-- A credit semaphore expects five. -/
theorem expect_crd (s : Bool) : (rd m).expect (crdC s c) 0 = 5 := by rw [expect_tc, role_crd]; rfl
/-- A send semaphore expects one slot's credit. -/
theorem expect_snd (s : Bool) (h : Fin 7) : (rd m).expect (sndC s h c) 0 = N s := by
  rw [expect_tc, role_snd]; exact Nat.one_mul _
/-- A receive semaphore expects one slot's credit. -/
theorem expect_rcv (s : Bool) (h : Fin 7) : (rd m).expect (rcvC s h c) 0 = N s := by
  rw [expect_tc, role_rcv]; exact Nat.one_mul _
/-- What a neighbour's barrier signal hands over. -/
theorem payload_bar (s : Bool) : (rd m).payload (barC c) 0 (bd s) = barPay s c := by cases s <;> rfl
/-- What a credit hands over. -/
theorem payload_crd (s : Bool) (d : Fin 5) : (rd m).payload (crdC s c) 0 d = relPay (fwd s c) s d := by
  show rPay m c (role (.reg (crdS s))) d = _; rw [role_crd]; rfl
/-- What the end of a send hands back. -/
theorem payload_snd (s : Bool) (h : Fin 7) (d : Fin 5) : (rd m).payload (sndC s h c) 0 d = sndPay m s h c := by
  show rPay m c (role (.dma (sndS s h))) d = _; rw [role_snd]; rfl
/-- What a landing hands over. -/
theorem payload_rcv (s : Bool) (h : Fin 7) (d : Fin 5) : (rd m).payload (rcvC s h c) 0 d = rcvPay m s h c := by
  show rPay m c (role (.dma (rcvS s h))) d = _; rw [role_rcv]; rfl

/-- All that the barrier hands over. -/
theorem rest_bar : bigSep ((rd m).duties (barC c) 0 \ ∅) (fun d => (rd m).payload (barC c) 0 d) = iprop(barPay false c ∗ barPay true c) := by
  rw [Finset.sdiff_empty, duties_bar, bigSep_insert (by decide), bigSep_singleton]
  rfl
/-- All that a send semaphore hands over. -/
theorem rest_snd (s : Bool) (h : Fin 7) :
    bigSep ((rd m).duties (sndC s h c) 0 \ ∅) (fun d => (rd m).payload (sndC s h c) 0 d) = sndPay m s h c := by
  rw [Finset.sdiff_empty, duties_snd, bigSep_singleton, payload_snd]
/-- All that a receive semaphore hands over. -/
theorem rest_rcv (s : Bool) (h : Fin 7) :
    bigSep ((rd m).duties (rcvC s h c) 0 \ ∅) (fun d => (rd m).payload (rcvC s h c) 0 d) = rcvPay m s h c := by
  rw [Finset.sdiff_empty, duties_rcv, bigSep_singleton, payload_rcv]

end Sched

/-! ## What each device owes; the levels -/

/-- A unit owed: to which neighbour (`fwd dir`), on which of its semaphores, under which index, how much. -/
structure Due where
  dir : Bool
  sm : SemLoc sig
  ι : ℕ
  n : ℕ

def Due.tally (x : Due) (c : Dev nD) : CellTallies nD τ sig ℕ := tallyAt (((fwd x.dir c : Dev nD) : Thread nD τ), x.sm) x.ι x.n

/-- What device `c` owes by a list of dues; the head is paid first. -/
def sumD (c : Dev nD) : List Due → CellTallies nD τ sig ℕ
  | [] => 0
  | x :: l => sumD c l + x.tally c

def barD (s : Bool) : Due := ⟨!s, .reg barS, 0, 1⟩
def rcvD (s : Bool) (h : Fin 7) : Due := ⟨s, .dma (rcvS s h), 0, N s⟩
def crdD (s : Bool) (j : Fin 5) : Due := ⟨!s, .reg (crdS s), j.val, 1⟩

/-- The dues of a hop's signals (hops 0 … 4), -/
def crdDs (h : Fin 7) : List Due := if hh : h.val < 5 then [crdD false ⟨h.val, hh⟩, crdD true ⟨h.val, hh⟩] else []
/-- of a hop, -/
def hopDs (h : Fin 7) : List Due := rcvD false h :: rcvD true h :: crdDs h
/-- of the last `k` hops, -/
def restDs : ℕ → List Due
  | 0 => []
  | k + 1 => hopDs ⟨6 - k, by omega⟩ ++ restDs k
/-- of the whole run. -/
def allDs : List Due := barD false :: barD true :: restDs 7

/-- What is owed before a hop is the hop's two landings, its credits, and what is owed after it. -/
theorem restDs_hop (h : Fin 7) : restDs (7 - h.val) = rcvD false h :: rcvD true h :: (crdDs h ++ restDs (6 - h.val)) := by
  fin_cases h <;> rfl

def L (g : GSem nD τ sig) : Finset ℕ := if g.1.2 = .tc then Finset.range 5 else ∅
def rLv : Role → ℕ → ℕ
  | .bar, _ => 1
  | .crd _, j => 3 * j + 2
  | .rcv _ h, _ => 3 * h.val + 3
  | _, _ => 0
def lv (g : GSem nD τ sig) (ι : ℕ) : ℕ := rLv (role g.2) ι

/-- Only TensorCore semaphores have levels. -/
theorem L_of_ne (g : GSem nD τ sig) (h : g.1.2 ≠ .tc) : L g = ∅ := if_neg h
/-- The levels of a TensorCore semaphore. -/
theorem L_tc (c : Dev nD) (sm : SemLoc sig) : L ((c : Thread nD τ), sm) = Finset.range 5 := if_pos rfl

/-- What a list of dues owes somewhere comes from one of them. -/
theorem sumD_pos {c : Dev nD} {l : List Due} {g : GSem nD τ sig} {u : ℕ} (h : 0 < sumD c l g u) :
    ∃ x ∈ l, g = (((fwd x.dir c : Dev nD) : Thread nD τ), x.sm) ∧ u = x.ι := by
  induction l with
  | nil => exact absurd h (Nat.lt_irrefl 0)
  | cons x l ih =>
    unfold sumD Due.tally at h
    rw [Pi.add_apply, Finsupp.add_apply, tallyAt_apply] at h
    by_cases hx : g = (((fwd x.dir c : Dev nD) : Thread nD τ), x.sm) ∧ u = x.ι
    · exact ⟨x, List.mem_cons_self, hx⟩
    · rw [if_neg hx, Nat.add_zero] at h
      obtain ⟨y, hy, hyy⟩ := ih h
      exact ⟨y, List.mem_cons_of_mem _ hy, hyy⟩

/-- Every due of the list lies above level `b`. -/
def Above (b : ℕ) (l : List Due) : Prop := ∀ x ∈ l, b < rLv (role x.sm) x.ι ∧ x.ι < 5
instance (b : ℕ) (l : List Due) : Decidable (Above b l) := by unfold Above; infer_instance

/-- A device may wait on a cell of level at most `b` while it owes dues above `b`. -/
theorem mayWait (c : Dev nD) (sm : SemLoc sig) (ι b : ℕ) (hι : ι < 5) (hb : rLv (role sm) ι ≤ b) (l : List Due) (hl : Above b l) :
    (levAts L lv : sProp 𝕄) ⊢ MayWait (c : Thread nD τ) sm ι (sumD c l) :=
  MayOwe.of_cut (L := L) (lev := lv) b
    (fun p hp => by rw [Finset.mem_singleton.mp hp, L_tc]; exact Finset.mem_range.2 hι)
    (fun g u hg => by
      obtain ⟨x, hx, rfl, rfl⟩ := sumD_pos hg
      rw [L_tc]; exact Finset.mem_range.2 (hl x hx).2)
    (fun p hp => by rw [Finset.mem_singleton.mp hp]; exact hb)
    (fun g u hg => by
      obtain ⟨x, hx, rfl, rfl⟩ := sumD_pos hg
      exact (hl x hx).1)

/-- Everything owed at the start lies above level 0. -/
theorem above_all : Above 0 allDs := by decide
/-- What is owed after the barrier's signals lies above the barrier. -/
theorem above_bar : Above 1 (restDs 7) := by decide
/-- What is owed at a wait for a credit lies above that credit. -/
theorem above_crd (h : Fin 7) : 2 ≤ h.val → Above (3 * (h.val - 2) + 2) (restDs (7 - h.val)) := by revert h; decide
/-- What is owed at a wait for a send lies above level 0. -/
theorem above_snd (h : Fin 7) : Above 0 (crdDs h ++ restDs (6 - h.val)) := by revert h; decide
/-- What is owed at a wait for a landing lies above that landing. -/
theorem above_rcv (h : Fin 7) : Above (3 * h.val + 3) (restDs (6 - h.val)) := by revert h; decide

end Cert.KernelIdeal.Hand

end
-- ==== Proof.KernelIdeal.Steps.lean ====
/-
  One lemma per step of the kernel's body, at any device `c`, ring `s` and hop `h`: what the step needs, and
  what it leaves. The body is then a chain of these (Body.lean).
-/
module

public import proofs.«01_k».proof.Proof.KernelIdeal.Common

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## What everybody knows -/

/-- The cells: the barrier, the two credit cells, then the DMA semaphores by number. -/
def csem (k : Fin 31) : SemLoc sig :=
  if k.val = 0 then .reg barS else if k.val = 1 then .reg (crdS false) else if k.val = 2 then .reg (crdS true) else .dma ⟨k.val, k.isLt⟩
abbrev kcell (ck : Dev nD × Fin 31) : GSem nD τ sig := ((ck.1 : Thread nD τ), csem ck.2)

/-- A cell keeps its schedule, and stands at round 0 or later. -/
def know (g : GSem nD τ sig) : sProp 𝕄 := iprop((∃ κ, cellInv ER (rd m) κ g) ∗ reached ER g 0)
instance know_persistent (g : GSem nD τ sig) : BI.Persistent (know m g) := by unfold know; infer_instance
/-- A slot given up can be taken once. -/
def knowSlot (k : Key) : sProp 𝕄 := iprop(∃ ι : ℕ, Release.slotInv ES ι k (slotK k))
instance knowSlot_persistent (k : Key) : BI.Persistent (knowSlot (F := F) k) := by unfold knowSlot; infer_instance

/-- All the cells, all the slots, and the levels. -/
def Rec : sProp 𝕄 :=
  iprop(bigSep Finset.univ (fun ck : Dev nD × Fin 31 => know m (kcell ck)) ∗ bigSep Finset.univ (fun k : Key => knowSlot k) ∗ levAts L lv)
instance Rec_persistent : BI.Persistent (Rec m) := by unfold Rec; infer_instance

def sndIx (s : Bool) (h : Fin 7) : Fin 31 := ⟨3 + h.val + (if s then 14 else 0), by split <;> omega⟩
def rcvIx (s : Bool) (h : Fin 7) : Fin 31 := ⟨10 + h.val + (if s then 14 else 0), by split <;> omega⟩
def crdIx (s : Bool) : Fin 31 := if s then 2 else 1
/-- The barrier by its number. -/
theorem csem_bar : csem 0 = .reg barS := rfl
/-- A credit semaphore by its number. -/
theorem csem_crd (s : Bool) : csem (crdIx s) = .reg (crdS s) := by cases s <;> rfl
/-- A send semaphore by its number. -/
theorem csem_snd (s : Bool) (h : Fin 7) : csem (sndIx s h) = .dma (sndS s h) := by cases s <;> fin_cases h <;> rfl
/-- A receive semaphore by its number. -/
theorem csem_rcv (s : Bool) (h : Fin 7) : csem (rcvIx s h) = .dma (rcvS s h) := by cases s <;> fin_cases h <;> rfl

/-- The shared record knows every semaphore's schedule, -/
theorem rec_cell (c : Dev nD) (k : Fin 31) : Rec m ⊢ know m ((c : Thread nD τ), csem k) := by
  have h : bigSep Finset.univ (fun ck : Dev nD × Fin 31 => know m (kcell ck)) ⊢ know m (kcell (c, k)) := bigSep_elim (Finset.mem_univ _)
  unfold Rec
  iintro ⟨H, -, -⟩
  iapply h; iexact H
/-- the barrier's, -/
theorem rec_bar (c : Dev nD) : Rec m ⊢ know m (barC c) := rec_cell m c 0
/-- a credit's, -/
theorem rec_crd (s : Bool) (c : Dev nD) : Rec m ⊢ know m (crdC s c) := by
  have h := rec_cell m c (crdIx s); rwa [csem_crd] at h
/-- a send's, -/
theorem rec_snd (s : Bool) (h : Fin 7) (c : Dev nD) : Rec m ⊢ know m (sndC s h c) := by
  have h := rec_cell m c (sndIx s h); rwa [csem_snd] at h
/-- a landing's, -/
theorem rec_rcv (s : Bool) (h : Fin 7) (c : Dev nD) : Rec m ⊢ know m (rcvC s h c) := by
  have h := rec_cell m c (rcvIx s h); rwa [csem_rcv] at h
/-- every slot's invariant, -/
theorem rec_slot (k : Key) : Rec m ⊢ knowSlot (F := F) k := by
  have h : bigSep Finset.univ (fun k : Key => knowSlot (F := F) k) ⊢ knowSlot k := bigSep_elim (Finset.mem_univ _)
  unfold Rec
  iintro ⟨-, H, -⟩
  iapply h; iexact H
/-- and the levels. -/
theorem rec_lev : Rec m ⊢ levAts L lv := by
  unfold Rec
  iintro ⟨-, -, H⟩
  iexact H

/-! ## Programs -/

abbrev 𝒱₀ : Variants := Variants.none

/-- Device `c` runs `p` to `Q`. -/
abbrev wpc {α : Type} (c : Dev nD) (p : P F α) (Q : α → sProp 𝕄) : sProp 𝕄 :=
  wp frame (wpE (defs₀ (F := F)) 𝒱₀ (c : Thread nD τ) none) Set.univ p Q

/-- A step at the head of a program. -/
theorem step {α : Type} {c : Dev nD} {A B : sProp 𝕄} {p : P F PUnit} {k : PUnit → P F α} {Q : α → sProp 𝕄}
    (h : A ⊢ wpc c p (fun _ => B)) : A ⊢ iprop((B -∗ wpc c (k ⟨⟩) Q) -∗ wpc c (p >>= k) Q) := by
  show A ⊢ iprop((B -∗ wpc c (k ⟨⟩) Q) -∗ wp frame (wpE (defs₀ (F := F)) 𝒱₀ (c : Thread nD τ) none) Set.univ (p >>= k) Q)
  rw [wp_bind]
  refine h.trans ?_
  iintro H Hk
  iapply (wp_wand frame (wpE (defs₀ (F := F)) 𝒱₀ (c : Thread nD τ) none) Set.univ) $$ H
  iintro %a HB
  iapply Hk; iexact HB

/-- What device `c` owes, whatever it has waited for. -/
def OW (c : Dev nD) (l : List Due) : sProp 𝕄 := iprop(∃ W : Waits sig ℕ, owes (c : Thread nD τ) (sumD c l) W)

/-! ## The signals -/

/-- The barrier's signal to the device behind on ring `s` hands it the own empty slots of the ring. -/
theorem signal_bar (s : Bool) (c d : Dev nD) (hd : d = bwd s c) (l : List Due) :
    iprop(Rec m ∗ OW c (barD s :: l) ∗ dutyTok ER (barC (bwd s c)) 0 (bd s) ∗ slotAny c s 1 ∗ slotAny c s 2)
      ⊢ wpc c (semSignalWord d barS 1#32) (fun _ => OW c l) := by
  subst hd
  unfold wpc semSignalWord OW
  iintro ⟨#HR, ⟨%W, HO⟩, Ht, H1, H2⟩
  ihave HI := (rec_bar m (bwd s c)) $$ HR
  unfold know
  icases HI with ⟨⟨%κ, #HI⟩, #Hr⟩
  iapply (Rounds.wp_signal 𝒱₀ ER (rd m) (c : Thread nD τ) none (dst := (bwd s c : Thread nD τ)) (κ := κ)
      (d := bd s) (by rw [duties_bar]; cases s <;> decide) ((amount_bar m (bwd s c) (bd s)).trans (by decide)) 0 (O₀ := sumD c (barD s :: l)) (sumD c l)
      (by show sumD c l + (barD s).tally c = _; unfold barD Due.tally; rw [fwd_not]; rfl)) $$ [HO Ht H1 H2]
  · isplitr; · iexact HI
    isplitl [HO]; · iexact HO
    isplitl [Ht]; · iexact Ht
    isplitl [H1 H2]
    · rw [payload_bar]; unfold barPay; rw [fwd_bwd]
      isplitl [H1] <;> iassumption
    · iexact Hr
  iintro HO
  rw [wp_ret]; imodintro
  iexists W; iexact HO

/-- The credit's signal after hop `j`: the slot just sent from is given up, and the device behind told so. -/
theorem signal_crd (s : Bool) (c d : Dev nD) (hd : d = bwd s c) (j : Fin 5) (l : List Due) :
    iprop(Rec m ∗ OW c (crdD s j :: l) ∗ dutyTok ER (crdC s (bwd s c)) 0 j ∗ relPay c s j)
      ⊢ wpc c (semSignalWord d (crdS s) 1#32) (fun _ => OW c l) := by
  subst hd
  unfold wpc semSignalWord OW
  iintro ⟨#HR, ⟨%W, HO⟩, Ht, Hp⟩
  ihave HI := (rec_crd m s (bwd s c)) $$ HR
  unfold know
  icases HI with ⟨⟨%κ, #HI⟩, #Hr⟩
  iapply (Rounds.wp_signal 𝒱₀ ER (rd m) (c : Thread nD τ) none (dst := (bwd s c : Thread nD τ)) (κ := κ)
      (d := j) (by rw [duties_crd]; exact Finset.mem_univ _) ((amount_crd m (bwd s c) s j).trans (by decide)) j.val (O₀ := sumD c (crdD s j :: l)) (sumD c l)
      (by show sumD c l + (crdD s j).tally c = _; unfold crdD Due.tally; rw [fwd_not]; rfl)) $$ [HO Ht Hp]
  · isplitr; · iexact HI
    isplitl [HO]; · iexact HO
    isplitl [Ht]; · iexact Ht
    isplitl [Hp]
    · rw [payload_crd, fwd_bwd]; iexact Hp
    · iexact Hr
  iintro HO
  rw [wp_ret]; imodintro
  iexists W; iexact HO

/-- The wait on the barrier: both neighbours' empty slots. -/
theorem wait_bar (c : Dev nD) (l : List Due) (hl : Above 1 l) :
    iprop(Rec m ∗ OW c l ∗ atPos ER (barC c) 0 ∅ 0 ∗ cred (tallyAt (barC c) 0 2))
      ⊢ wpc c (semWaitWord barS 2#32) (fun _ => iprop(OW c l ∗ (barPay false c ∗ barPay true c) ∗ semVal (barC c) 0)) := by
  unfold wpc semWaitWord OW
  iintro ⟨#HR, ⟨%W, HO⟩, Hat, Hc⟩
  ihave HI := (rec_bar m c) $$ HR
  ihave Hl := (rec_lev m) $$ HR
  unfold know
  icases HI with ⟨⟨%κ, #HI⟩, -⟩
  iapply (Rounds.wp_wait_rest_token 𝒱₀ ER (rd m) (c : Thread nD τ) none (κ := κ)
      (wpE_semWait_eq 𝒱₀ (c : Thread nD τ) none Set.univ) (Set.mem_univ _) 0 (O := sumD c l) (W := W) (R := 0) (m := 0) (T := ∅)
      (by rw [expect_bar]; decide)) $$ [Hc HO Hat Hl]
  · isplitr; · iexact HI
    isplitl [Hc]; · iexact Hc
    isplitl [HO]; · iexact HO
    isplitl [Hl]; · iapply (mayWait c (.reg barS) 0 1 (by decide) (by decide) l hl); iexact Hl
    iexact Hat
  iintro ⟨HO, Hat, -, Hpay⟩
  ihave Hp := (Entails.of_eq (rest_bar m c)) $$ Hpay
  imod (Rounds.cell_close ER (rd m) (Set.mem_univ κ) (fun h => h) (R := 0 + 1) (duties_later m (barC c))) $$ [Hat] with Hz
  · isplitr; · iexact HI
    iexact Hat
  rw [wp_ret]; imodintro
  isplitl [HO]; · iexists (insert (SemLoc.reg barS, 0) W); iexact HO
  isplitl [Hp]; · iexact Hp
  iexact Hz

/-! ## The copies -/

/-- Hop `h`'s copy of ring `s`: half a share of the slot in use is lent to it, the slot ahead is filled. -/
theorem start_step (s : Bool) (h : Fin 7) (c d : Dev nD) (hd : d = fwd s c) (l : List Due) :
    iprop(Rec m ∗ OW c (rcvD s h :: l) ∗ slotOwn c s (cur h.castSucc) fullShare.left (blkX m s c h.castSucc)
        ∗ slotAny (fwd s c) s (nxtSlot h) ∗ dutyTok ER (sndC s h c) 0 0 ∗ dutyTok ER (rcvC s h (fwd s c)) 0 0)
      ⊢ wpc c (start s h d) (fun _ => iprop(OW c l ∗ cred (tallyAt (sndC s h c) 0 (N s)))) := by
  subst hd
  unfold wpc start OW Prog.lift slotOwn owns slotAny Release.slot
  iintro ⟨#HR, ⟨%W, HO⟩, ⟨%fs, %hfs, Hs⟩, ⟨%fd, Hd⟩, Ht1, Ht2⟩
  ihave HI1 := (rec_snd m s h c) $$ HR
  ihave HI2 := (rec_rcv m s h (fwd s c)) $$ HR
  unfold know
  icases HI1 with ⟨⟨%κ₁, #HI1⟩, #Hr1⟩
  icases HI2 with ⟨⟨%κ₂, #HI2⟩, #Hr2⟩
  iapply (Rounds.wp_send_pointsTo 𝒱₀ ER (rd m) (c : Thread nD τ) none (κ₁ := κ₁) (κ₂ := κ₂)
    (r₁ := 0) (r₂ := 0) (d₁ := 0) (d₂ := 0) (fd := fd) (fs := fs) (sS := .dma (sndS s h)) (sem := .dma (rcvS s h)) (O₀ := sumD c (rcvD s h :: l))
    (by rw [duties_snd]; exact Finset.mem_singleton_self _) (by rw [duties_rcv]; exact Finset.mem_singleton_self _)
    0 0 (N s) (N_eq s _) (amount_snd m c s h 0) (amount_rcv m (fwd s c) s h 0) (sumD c l)
    (by rfl) (W := W)
    (by
      rw [payload_snd]; unfold sndPay slotOwn owns
      iintro H; iexists fs; isplitr
      · ipureintro; exact hfs
      · iexact H)
    (by
      rw [payload_rcv]; unfold rcvPay
      rw [blkX_fwd, ← hfs]
      refine (owns_intro (fwd s c : Thread nD τ) (slot s (nxtSlot h)) fullShare _).trans (Entails.of_eq ?_)
      rw [View.read_write_univ]
      rfl)) $$ [HO Hs Hd Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  isplitl [HO]; · iexists W; iexact HO
  iexact Hc

/-- The copy has left: the half share lent is back. -/
theorem sent_step (s : Bool) (h : Fin 7) (c : Dev nD) (l : List Due) (hl : Above 0 l) :
    iprop(Rec m ∗ OW c l ∗ atPos ER (sndC s h c) 0 ∅ 0 ∗ cred (tallyAt (sndC s h c) 0 (N s)))
      ⊢ wpc c (awaitSent s h) (fun _ => iprop(OW c l ∗ slotOwn c s (cur h.castSucc) fullShare.left (blkX m s c h.castSucc) ∗ semVal (sndC s h c) 0)) := by
  unfold wpc awaitSent OW Prog.lift
  iintro ⟨#HR, ⟨%W, HO⟩, Hat, Hc⟩
  ihave HI := (rec_snd m s h c) $$ HR
  ihave Hl := (rec_lev m) $$ HR
  unfold know
  icases HI with ⟨⟨%κ, #HI⟩, -⟩
  rw [← N_eq s (cur h.castSucc)]
  iapply (Rounds.wp_wait_rest_token 𝒱₀ ER (rd m) (c : Thread nD τ) none (κ := κ)
      (wpE_waitDma2_eq 𝒱₀ (c : Thread nD τ) none Set.univ) (Set.mem_univ _) 0 (O := sumD c l) (W := W) (R := 0) (m := 0) (T := ∅)
      (by rw [Nat.zero_add, expect_snd, N_eq])) $$ [Hc HO Hat Hl]
  · isplitr; · iexact HI
    isplitl [Hc]; · iexact Hc
    isplitl [HO]; · iexact HO
    isplitl [Hl]; · iapply (mayWait c (.dma (sndS s h)) 0 0 (by decide) (by rw [role_snd]; exact le_rfl) l hl); iexact Hl
    iexact Hat
  iintro ⟨HO, Hat, -, Hpay⟩
  ihave Hp := (Entails.of_eq (rest_snd m c s h)) $$ Hpay
  imod (Rounds.cell_close ER (rd m) (Set.mem_univ κ) (fun h => h) (R := 0 + 1) (duties_later m (sndC s h c))) $$ [Hat] with Hz
  · isplitr; · iexact HI
    iexact Hat
  rw [wp_ret]; imodintro
  isplitl [HO]; · iexists (insert (SemLoc.dma (sndS s h), 0) W); iexact HO
  isplitl [Hp]; · unfold sndPay; iexact Hp
  iexact Hz

/-- The next block has landed. -/
theorem landed_step (s : Bool) (h : Fin 7) (c : Dev nD) (l : List Due) (hl : Above (3 * h.val + 3) l) :
    iprop(Rec m ∗ OW c l ∗ atPos ER (rcvC s h c) 0 ∅ 0 ∗ cred (tallyAt (rcvC s h c) 0 (N s)))
      ⊢ wpc c (awaitLanded s h) (fun _ => iprop(OW c l ∗ slotOwn c s (cur h.succ) fullShare (blkX m s c h.succ) ∗ semVal (rcvC s h c) 0)) := by
  unfold wpc awaitLanded OW Prog.lift
  iintro ⟨#HR, ⟨%W, HO⟩, Hat, Hc⟩
  ihave HI := (rec_rcv m s h c) $$ HR
  ihave Hl := (rec_lev m) $$ HR
  unfold know
  icases HI with ⟨⟨%κ, #HI⟩, -⟩
  rw [← N_eq s (nxtSlot h)]
  iapply (Rounds.wp_wait_rest_token 𝒱₀ ER (rd m) (c : Thread nD τ) none (κ := κ)
      (wpE_waitDma2_eq 𝒱₀ (c : Thread nD τ) none Set.univ) (Set.mem_univ _) 0 (O := sumD c l) (W := W) (R := 0) (m := 0) (T := ∅)
      (by rw [Nat.zero_add, expect_rcv, N_eq])) $$ [Hc HO Hat Hl]
  · isplitr; · iexact HI
    isplitl [Hc]; · iexact Hc
    isplitl [HO]; · iexact HO
    isplitl [Hl]; · iapply (mayWait c (.dma (rcvS s h)) 0 (3 * h.val + 3) (by decide) (by rw [role_rcv]; exact le_rfl) l hl); iexact Hl
    iexact Hat
  iintro ⟨HO, Hat, -, Hpay⟩
  ihave Hp := (Entails.of_eq (rest_rcv m c s h)) $$ Hpay
  imod (Rounds.cell_close ER (rd m) (Set.mem_univ κ) (fun h => h) (R := 0 + 1) (duties_later m (rcvC s h c))) $$ [Hat] with Hz
  · isplitr; · iexact HI
    iexact Hat
  rw [wp_ret]; imodintro
  isplitl [HO]; · iexists (insert (SemLoc.dma (rcvS s h), 0) W); iexact HO
  isplitl [Hp]; · unfold rcvPay; iexact Hp
  iexact Hz

end Cert.KernelIdeal.Hand

end
-- ==== Proof.KernelIdeal.Steps2.lean ====
/-
  The steps that compute — the blocks put into slot 0, the products — and the credits: a slot given up after
  its copy has left, and the wait for the word that the slot ahead may be written.
-/
module

public import proofs.«01_k».proof.Proof.KernelIdeal.Steps
public import Idealize.ShloMosaic.Lib.Pipeline.Value
public import Idealize.ShloMosaic.Lib.Pipeline.ValueKit.Geometry

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The result -/

/-- The rectified product of a block of 256 rows with a weight block. -/
def gemmX (x : FVec F S256x4096 .bf16) (w : Vec F S4096x256 .bf16) : FVec F S256x256 .f32 :=
  maximumf (matmul dot_S256x4096_S4096x256_S256x256_1_0_0_1_n_n none x w (constant S256x256 .f32 0x00000000#32))
    (broadcast S256x256 (Scalar.ofBits .f32 0x00000000#32 : F .f32))

/-- The row block of the result an element lies in: the half, and the device its rows come from. -/
def rowBlk (i : S4096x256.Idx) : Bool × Dev nD :=
  (decide ((i 0).val / 256 % 2 = 1), ⟨(i 0).val / 512, by have : (i 0).val < 4096 := (i 0).isLt; show _ < 8; omega⟩)
/-- The element's place in its row block. -/
def inBlk (i : S4096x256.Idx) : S256x256.Idx := fun a =>
  ⟨(![(i 0).val % 256, (i 1).val] : Fin 2 → ℕ) a, by
    revert a; rw [Fin.forall_fin_two]
    exact ⟨Nat.mod_lt _ (by decide), (i 1).isLt⟩⟩

/-- The kernel's result on device `c`: every half block of every device times the own weight block, rectified. -/
def outAt (c : Dev nD) : (cc0_stg2_0 : Ref sig .tc).ty.Contents (Elt F) :=
  fun i => gemmX (half m (rowBlk i).1 (rowBlk i).2) (wstg m c) (inBlk i)

/-- Where a product is stored: at the rows of the device its block comes from. -/
theorem offS_eq (s : Bool) (c : Dev nD) (h : Fin 8) :
    offS s c h = ![(srcOf s c h).val * 512 + (if s then 256 else 0), 0] := by
  have : ∀ (s : Bool) (c : Dev nD) (h : Fin 8) (a : Fin 2),
      offS s c h a = (![(srcOf s c h).val * 512 + (if s then 256 else 0), 0] : Fin 2 → ℕ) a := by decide +kernel
  exact funext (this s c h)

abbrev outR (s : Bool) (c : Dev nD) (h : Fin 8) : Rect S4096x256 := Rect.unit (s := S4096x256) (offS s c h) S256x256.size (offS_inb s c h)

/-- The row of an element of a stored product. -/
theorem out_emb0 (s : Bool) (c : Dev nD) (h : Fin 8) (x : S256x256.Idx) :
    ((oM.access (outR s c h)).emb x (0 : Fin 2)).val = (srcOf s c h).val * 512 + (if s then 256 else 0) + (x 0).val := by
  have e := ValueKit.view_emb_slice_whole_unit_val (cc0_stg2_0 : Ref sig .tc) (offS s c h) S256x256.size (offS_inb s c h) x (0 : Fin 2)
  exact e.trans (congrArg (fun o : Fin 2 → ℕ => o 0 + (x 0).val) (offS_eq s c h))
/-- The column of an element of a stored product. -/
theorem out_emb1 (s : Bool) (c : Dev nD) (h : Fin 8) (x : S256x256.Idx) :
    ((oM.access (outR s c h)).emb x (1 : Fin 2)).val = (x 1).val := by
  have e := ValueKit.view_emb_slice_whole_unit_val (cc0_stg2_0 : Ref sig .tc) (offS s c h) S256x256.size (offS_inb s c h) x (1 : Fin 2)
  exact (e.trans (congrArg (fun o : Fin 2 → ℕ => o 1 + (x 1).val) (offS_eq s c h))).trans (Nat.zero_add _)

/-- An element of the result in the row block at hand is the stored product's element at its place. -/
theorem out_emb_inBlk (s : Bool) (c : Dev nD) (h : Fin 8) (i : S4096x256.Idx) (hi : rowBlk i = (s, srcOf s c h)) :
    (oM.access (outR s c h)).emb (inBlk i) = i := by
  have h1 : decide ((i 0).val / 256 % 2 = 1) = s := congrArg Prod.fst hi
  have h2 : (i 0).val / 512 = (srcOf s c h).val := congrArg (fun p : Bool × Dev nD => p.2.val) hi
  have hlt : (i 0).val < 4096 := (i 0).isLt
  refine funext fun a => Fin.ext ?_
  revert a
  refine (Fin.forall_fin_two (p := fun a => ((oM.access (outR s c h)).emb (inBlk i) a).val = (i a).val)).2 ⟨?_, ?_⟩
  · refine (out_emb0 s c h _).trans ?_
    rw [← h2]
    show (i 0).val / 512 * 512 + (if s then 256 else 0) + (i 0).val % 256 = (i 0).val
    cases s
    · have := of_decide_eq_false h1
      simp only [Bool.false_eq_true, if_false]; omega
    · have := of_decide_eq_true h1
      simp only [if_true]; omega
  · exact out_emb1 s c h _

/-- The stored product lies in the row block of its device and half. -/
theorem rowBlk_emb (s : Bool) (c : Dev nD) (h : Fin 8) (x : S256x256.Idx) :
    rowBlk ((oM.access (outR s c h)).emb x) = (s, srcOf s c h) := by
  have e := out_emb0 s c h x
  have hx : (x 0).val < 256 := (x 0).isLt
  refine Prod.ext ?_ (Fin.ext ?_)
  · show decide (((oM.access (outR s c h)).emb x (0 : Fin 2)).val / 256 % 2 = 1) = s
    rw [e]
    cases s
    · simp only [Bool.false_eq_true, if_false, decide_eq_false_iff_not]; omega
    · simp only [if_true, decide_eq_true_eq]; omega
  · show ((oM.access (outR s c h)).emb x (0 : Fin 2)).val / 512 = _
    rw [e]
    cases s
    · simp only [Bool.false_eq_true, if_false]; omega
    · simp only [if_true]; omega

/-- The result on device `c` is right on the row blocks `S`. -/
def OutOK (c : Dev nD) (S : Finset (Bool × Dev nD)) (f : (cc0_stg2_0 : Ref sig .tc).ty.Contents (Elt F)) : Prop :=
  ∀ i : S4096x256.Idx, rowBlk i ∈ S → f i = outAt m c i

/-- A product stored makes its row block right and leaves the others. -/
theorem outOK_write (c : Dev nD) (s : Bool) (h : Fin 8) (S : Finset (Bool × Dev nD)) (f : (cc0_stg2_0 : Ref sig .tc).ty.Contents (Elt F))
    (hf : OutOK m c S f) :
    OutOK m c (insert (s, srcOf s c h) S)
      ((oM.access (outR s c h)).write (Elt F) f (gemmX (blkX m s c h) (wstg m c)) Finset.univ) := by
  intro i hi
  by_cases hb : rowBlk i = (s, srcOf s c h)
  · have e := out_emb_inBlk s c h i hb
    have hw := View.write_emb_of_mem (v := oM.access (outR s c h)) (Val := Elt F) f (gemmX (blkX m s c h) (wstg m c))
      (M := Finset.univ) (x := inBlk i) (Finset.mem_univ _)
    rw [e] at hw
    refine hw.trans ?_
    show gemmX (blkX m s c h) (wstg m c) (inBlk i) = _
    unfold outAt blkX
    rw [hb]
  · rw [View.write_of_not_mem]
    · exact hf i ((Finset.mem_insert.1 hi).resolve_left hb)
    · intro hmem
      obtain ⟨x, -, hx⟩ := Finset.mem_map.1 hmem
      exact hb (hx ▸ rowBlk_emb s c h x)

/-- The result buffer, right on `S`. -/
def outSt (c : Dev nD) (S : Finset (Bool × Dev nD)) : sProp 𝕄 :=
  iprop(∃ f : Buf (Elt F) ((c : Thread nD τ).loc cc0_stg2_0), ⌜OutOK m c S f⌝ ∗ (((c : Thread nD τ).loc cc0_stg2_0) ↦{fullShare} f))
/-- The scratch copy of the weight block. -/
def vSt (c : Dev nD) : sProp 𝕄 := (((c : Thread nD τ).loc cc0_scratch2) ↦{fullShare} (wstg m c : Buf (Elt F) ((c : Thread nD τ).loc cc0_scratch2)))
def xSt (c : Dev nD) : sProp 𝕄 := (((c : Thread nD τ).loc cc0_stg0_0) ↦{fullShare} (xstg m c))
def wSt (c : Dev nD) : sProp 𝕄 := (((c : Thread nD τ).loc cc0_stg1_0) ↦{fullShare} (wstg m c))

/-- Zero offsets. -/
theorem hz : (![0, 0] : Fin 2 → Nat) = fun _ => 0 := funext fun a => by fin_cases a <;> rfl

/-- A slot's elements, by the rectangle loads and stores name. -/
theorem slot_set (s : Bool) (k : Fin 3) : (buf s).view.setOn (slotR k).set = (slot s k).view.set :=
  ((View.set_reshape _ _).trans (View.set_slice _ _)).symm
/-- A slot taken through the buffer covers the slot's elements. -/
theorem slot_set' (s : Bool) (k : Fin 3) : ((buf s).access (slotR k)).set = (slot s k).view.set :=
  (View.set_reshape _ _).symm

/-- The product of the block in use, stored. -/
theorem product_step (s : Bool) (c : Dev nD) (h : Fin 8) (q : PosShare TreeShare) (S : Finset (Bool × Dev nD)) :
    iprop(slotOwn c s (cur h) q (blkX m s c h) ∗ vSt m c ∗ outSt m c S)
      ⊢ wpc c (product s c h) (fun _ => iprop(slotOwn c s (cur h) q (blkX m s c h) ∗ vSt m c ∗ outSt m c (insert (s, srcOf s c h) S))) := by
  unfold wpc product slotOwn owns vSt outSt
  simp only [Prog.lift, Prog.bind_op, Prog.bind_ret, Prog.pure_eq_ret]
  iintro ⟨⟨%fs, %hfs, Hs⟩, Hv, ⟨%fo, %hfo, Ho⟩⟩
  iapply (wp_load 𝒱₀ (c : Thread nD τ) none Set.univ (m := buf s) (by rw [slot_set])) $$ Hs; iintro Hs
  iapply (wp_load 𝒱₀ (c : Thread nD τ) none Set.univ (m := vM) (Finset.subset_univ _)) $$ Hv; iintro Hv
  iapply (wp_load 𝒱₀ (c : Thread nD τ) none Set.univ (m := oM) (Finset.subset_univ _)) $$ Ho; iintro Ho
  iapply (wp_store 𝒱₀ (c : Thread nD τ) none Set.univ (m := oM) (r := outR s c h) (Mk := Finset.univ) (Finset.subset_univ _)) $$ Ho; iintro Ho
  rw [wp_ret]; imodintro
  have hv : vM.view.readAt (Elt F) (Rect.unit (s := S4096x256) ![0, 0] S4096x256.size inb_S4096x256_S4096x256_0_0).toLoadRect (wstg m c) = wstg m c :=
    Memref.readAt_unit_zero (Elt F) cc0_scratch2 hz _ _
  have hg : gemm ((buf s).view.readAt (Elt F) (slotR (cur h)).toLoadRect fs)
      (vM.view.readAt (Elt F) (Rect.unit (s := S4096x256) ![0, 0] S4096x256.size inb_S4096x256_S4096x256_0_0).toLoadRect (wstg m c))
      = gemmX (blkX m s c h) (wstg m c) := by
    rw [hv, ← hfs]; rfl
  rw [hg]
  isplitl [Hs]
  · iexists fs; isplitr
    · ipureintro; exact hfs
    · iexact Hs
  isplitl [Hv]; · iexact Hv
  iexists _; isplitr
  · ipureintro; exact outOK_write m c s h S fo hfo
  · iexact Ho

/-- Slot 0 of each ring, at the memref the fill names. -/
def aPts (c : Dev nD) (f : Buf (Elt F) (aM.view.loc (c : Thread nD τ))) : sProp 𝕄 := iprop(aM.view.loc (c : Thread nD τ) ↦[(slot false 0).view.set]{fullShare} f)
def bPts (c : Dev nD) (f : Buf (Elt F) (bM.view.loc (c : Thread nD τ))) : sProp 𝕄 := iprop(bM.view.loc (c : Thread nD τ) ↦[(slot true 0).view.set]{fullShare} f)
/-- Slot 0 of ring A with some contents, as a plain points-to. -/
theorem aPts_any (c : Dev nD) : (slotAny c false 0 : sProp 𝕄) ⊢ iprop(∃ f, aPts c f) := Entails.of_eq rfl
/-- Slot 0 of ring B with some contents, as a plain points-to. -/
theorem bPts_any (c : Dev nD) : (slotAny c true 0 : sProp 𝕄) ⊢ iprop(∃ f, bPts c f) := Entails.of_eq rfl
/-- A slot whose elements read `X` is a slot holding `X`. -/
theorem own_intro (c : Dev nD) (s : Bool) (k : Fin 3) (f : Buf (Elt F) ((slot s k).view.loc (c : Thread nD τ))) (X : Vec F S256x4096 .bf16)
    (h : (slot s k).view.read (Elt F) f = X) :
    iprop((slot s k).view.loc (c : Thread nD τ) ↦[(slot s k).view.set]{fullShare} f) ⊢ (slotOwn c s k fullShare X : sProp 𝕄) := by
  unfold slotOwn owns
  iintro H
  iexists f
  isplitr
  · ipureintro; exact h
  · iexact H
/-- Slot 0 of ring A, after the store of `X`, holds `X`. -/
theorem aPts_own (c : Dev nD) (f) (X : Vec F S256x4096 .bf16) (h : shapeCast S256x4096 ((aM.access (slotR 0)).read (Elt F) f) shapeCasts_S1x256x4096_S256x4096 = X) :
    aPts c f ⊢ (slotOwn c false 0 fullShare X : sProp 𝕄) :=
  (Entails.of_eq rfl).trans (own_intro c false 0 f X h)
/-- Slot 0 of ring B, after the store of `X`, holds `X`. -/
theorem bPts_own (c : Dev nD) (f) (X : Vec F S256x4096 .bf16) (h : shapeCast S256x4096 ((bM.access (slotR 0)).read (Elt F) f) shapeCasts_S1x256x4096_S256x4096 = X) :
    bPts c f ⊢ (slotOwn c true 0 fullShare X : sProp 𝕄) :=
  (Entails.of_eq rfl).trans (own_intro c true 0 f X h)

/-- The stored weight block is the loaded one. -/
theorem pay2_eq (v : Vec F S4096x256 .bf16) : k0_pay2 v = v := by
  dsimp only [k0_pay2]
  rw [shapeCast_self, shapeCast_self]
/-- The upper half stored to slot 0 is the loaded one. -/
theorem pay3_eq (v : Vec F S256x4096 .bf16) : shapeCast S256x4096 (k0_pay3 v) shapeCasts_S1x256x4096_S256x4096 = v :=
  (shapeCast_shapeCast (s := S256x4096) (t := S1x256x4096) (shapeCast S256x4096 v shapeCasts_S256x4096_S256x4096) _ _).trans (shapeCast_self v _)
/-- The lower half stored to slot 0 is the loaded one. -/
theorem pay4_eq (v : Vec F S256x4096 .bf16) : shapeCast S256x4096 (k0_pay4 v) shapeCasts_S1x256x4096_S256x4096 = v :=
  (shapeCast_shapeCast (s := S256x4096) (t := S1x256x4096) (shapeCast S256x4096 v shapeCasts_S256x4096_S256x4096) _ _).trans (shapeCast_self v _)

/-- The weight block copied to scratch, and the two halves of the activation block to slot 0 of the rings. -/
theorem fill_step (c : Dev nD) :
    iprop(xSt m c ∗ wSt m c ∗ (∃ f : Buf (Elt F) ((c : Thread nD τ).loc cc0_scratch2), ((c : Thread nD τ).loc cc0_scratch2) ↦{fullShare} f)
        ∗ slotAny c false 0 ∗ slotAny c true 0)
      ⊢ wpc c fill (fun _ => iprop(xSt m c ∗ wSt m c ∗ vSt m c
          ∗ slotOwn c false 0 fullShare (blkX m false c 0) ∗ slotOwn c true 0 fullShare (blkX m true c 0))) := by
  unfold wpc fill vSt xSt wSt
  simp only [Prog.lift, Prog.bind_op, Prog.bind_ret, Prog.pure_eq_ret]
  iintro ⟨Hx, Hw, ⟨%fv, Hv⟩, Ha0, Hb0⟩
  ihave Ha1 := (aPts_any (F := F) c) $$ Ha0
  icases Ha1 with ⟨%fa, Ha⟩
  ihave Hb1 := (bPts_any (F := F) c) $$ Hb0
  icases Hb1 with ⟨%fb, Hb⟩
  unfold aPts bPts
  iapply (wp_load 𝒱₀ (c : Thread nD τ) none Set.univ (m := wM) (Finset.subset_univ _)) $$ Hw; iintro Hw
  iapply (wp_load 𝒱₀ (c : Thread nD τ) none Set.univ (m := vM) (Finset.subset_univ _)) $$ Hv; iintro Hv
  iapply (wp_store 𝒱₀ (c : Thread nD τ) none Set.univ (m := vM) (r := Rect.unit (s := S4096x256) ![0, 0] S4096x256.size inb_S4096x256_S4096x256_0_0) (Mk := Finset.univ) (Finset.subset_univ _)) $$ Hv; iintro Hv
  iapply (wp_load 𝒱₀ (c : Thread nD τ) none Set.univ (m := xM) (Finset.subset_univ _)) $$ Hx; iintro Hx
  iapply (wp_load 𝒱₀ (c : Thread nD τ) none Set.univ (m := aM) (S := (slot false 0).view.set) (q := fullShare) (f := fa) (by exact (slot_set false 0).le)) $$ Ha; iintro Ha
  iapply (wp_store 𝒱₀ (c : Thread nD τ) none Set.univ (m := aM) (S := (slot false 0).view.set) (f := fa) (r := slotR 0) (Mk := Finset.univ) (by exact (slot_set' false 0).le)) $$ Ha; iintro Ha
  iapply (wp_load 𝒱₀ (c : Thread nD τ) none Set.univ (m := xM) (Finset.subset_univ _)) $$ Hx; iintro Hx
  iapply (wp_load 𝒱₀ (c : Thread nD τ) none Set.univ (m := bM) (S := (slot true 0).view.set) (q := fullShare) (f := fb) (by exact (slot_set true 0).le)) $$ Hb; iintro Hb
  iapply (wp_store 𝒱₀ (c : Thread nD τ) none Set.univ (m := bM) (S := (slot true 0).view.set) (f := fb) (r := slotR 0) (Mk := Finset.univ) (by exact (slot_set' true 0).le)) $$ Hb; iintro Hb
  rw [wp_ret]; imodintro
  isplitl [Hx]; · iexact Hx
  isplitl [Hw]; · iexact Hw
  isplitl [Hv]
  · have hw : wM.view.readAt (Elt F) (Rect.unit (s := S4096x256) ![0, 0] S4096x256.size inb_S4096x256_S4096x256_0_0).toLoadRect (wstg m c) = wstg m c :=
      Memref.readAt_unit_zero (Elt F) cc0_stg1_0 hz _ _
    have hv : (vM.access (Rect.unit (s := S4096x256) ![0, 0] S4096x256.size inb_S4096x256_S4096x256_0_0)).write (Elt F) fv
        (k0_pay2 (wM.view.readAt (Elt F) (Rect.unit (s := S4096x256) ![0, 0] S4096x256.size inb_S4096x256_S4096x256_0_0).toLoadRect (wstg m c)))
        Finset.univ = wstg m c := by
      refine (Memref.write_access_unit_zero_univ (Elt F) cc0_scratch2 hz _ _ _).trans ?_
      rw [hw]; exact pay2_eq _
    iapply (Entails.of_eq (congrArg (fun f : Buf (Elt F) ((c : Thread nD τ).loc cc0_scratch2) =>
      ((((c : Thread nD τ).loc cc0_scratch2) ↦{fullShare} f) : sProp 𝕄)) hv))
    iexact Hv
  isplitl [Ha]
  · iapply (aPts_own c ((aM.access (slotR 0)).write (Elt F) fa (k0_pay3 (xM.view.readAt (Elt F) (xR false).toLoadRect (xstg m c))) Finset.univ) _ (by
      rw [View.read_write_univ]
      refine (pay3_eq _).trans ?_
      unfold blkX; rw [srcOf_zero]; rfl))
    unfold aPts; iexact Ha
  · iapply (bPts_own c ((bM.access (slotR 0)).write (Elt F) fb (k0_pay4 (xM.view.readAt (Elt F) (xR true).toLoadRect (xstg m c))) Finset.univ) _ (by
      rw [View.read_write_univ]
      refine (pay4_eq _).trans ?_
      unfold blkX; rw [srcOf_zero]; rfl))
    unfold bPts; iexact Hb

/-! ## Giving up a slot, and waiting for one -/

/-- A slot has elements. -/
theorem slot_nonempty (s : Bool) (k : Fin 3) : (slot s k).view.set.Nonempty :=
  ⟨(slot s k).view.emb (Shape.Idx.first (by decide)), Finset.mem_map.2 ⟨_, Finset.mem_univ _, rfl⟩⟩

instance slotK_storable (k : Key) : BI.Storable (upEmb : UEmb _ 𝕄) (slotK k : sProp 𝕄) := by unfold slotK; infer_instance

/-- The releases of the hops before `j`. -/
def relSt (s : Bool) (c : Dev nD) (j : ℕ) : sProp 𝕄 :=
  bigSep (Finset.univ.filter (fun i : Fin 5 => i.val < j)) (fun i => Release.released ES (c, s, i) 1)
instance relSt_persistent (s : Bool) (c : Dev nD) (j : ℕ) : BI.Persistent (relSt (F := F) s c j) := by unfold relSt; infer_instance

/-- The slot of hop `j` is given up. -/
theorem release_step (s : Bool) (c : Dev nD) (j : Fin 5) :
    iprop(Rec m ∗ Release.readerAt ES (c, s, j) 0 ∗ slotAny c s (cur ⟨j.val, by omega⟩) ∗ relSt s c j.val)
      ⊢ (|={Set.univ}=> relSt s c (j.val + 1) : sProp 𝕄) := by
  iintro ⟨#HR, Hr, Hs, #Hb⟩
  ihave HI := (rec_slot m (c, s, j)) $$ HR
  unfold knowSlot
  icases HI with ⟨%ι, #HI⟩
  imod (Release.slot_release ES (Set.mem_univ ι) (S := slotK (c, s, j)) (Release.slot_slot_false (slot_nonempty s _)) 0) $$ [Hr Hs] with ⟨-, Hw⟩
  · isplitr; · iexact HI
    isplitl [Hr]; · iexact Hr
    unfold slotK; iexact Hs
  imodintro
  unfold relSt
  have e : Finset.univ.filter (fun i : Fin 5 => i.val < j.val + 1) = insert j (Finset.univ.filter (fun i : Fin 5 => i.val < j.val)) := by
    revert j; decide
  rw [e]
  have hins : iprop(Release.released ES (c, s, j) 1 ∗ bigSep (Finset.univ.filter (fun i : Fin 5 => i.val < j.val)) (fun i => Release.released ES (c, s, i) 1))
      ⊢ (bigSep (insert j (Finset.univ.filter (fun i : Fin 5 => i.val < j.val))) (fun i => Release.released ES (c, s, i) 1) : sProp 𝕄) :=
    by
    have hmem : j ∉ Finset.univ.filter (fun i : Fin 5 => i.val < j.val) := fun h => absurd (Finset.mem_filter.1 h).2 (Nat.lt_irrefl _)
    rw [bigSep_insert hmem]; exact Entails.of_eq rfl
  iapply hins
  isplitl [Hw]; · iexact Hw
  iexact Hb

/-- The record of the slots given up so far is what a credit hands over. -/
theorem relPay_of_relSt (s : Bool) (c : Dev nD) (j : Fin 5) : relSt s c (j.val + 1) ⊢ (relPay c s j : sProp 𝕄) := by
  unfold relSt relPay
  rw [show Finset.univ.filter (fun i : Fin 5 => i.val < j.val + 1) = Finset.univ.filter (· ≤ j) from by revert j; decide]

/-- Device `c`'s place in its credit cell of ring `s` after `n` waits: which units it has the word of. -/
def crSt (s : Bool) (c : Dev nD) (n : ℕ) : sProp 𝕄 :=
  iprop(∃ S : Finset (Fin 5), atPos ER (crdC s c) 0 S n ∗ bigSep S (fun d => (rd m).payload (crdC s c) 0 d))

/-- Of more than `j` credits one tells that the slot of hop `j` has been given up. -/
theorem released_of_payloads (s : Bool) (c : Dev nD) (j : Fin 5) (S : Finset (Fin 5)) (hS : j.val < S.card) :
    bigSep S (fun d => (rd m).payload (crdC s c) 0 d) ⊢ (Release.released ES (fwd s c, s, j) 1 : sProp 𝕄) := by
  obtain ⟨i, hi, hij⟩ : ∃ i ∈ S, j ≤ i := by
    by_contra hn
    push Not at hn
    have : S ⊆ Finset.univ.filter (· < j) := fun i hi => Finset.mem_filter.2 ⟨Finset.mem_univ _, hn i hi⟩
    have hc := Finset.card_le_card this
    have : (Finset.univ.filter (fun i : Fin 5 => i < j)).card = j.val := by clear * -; revert j; decide
    omega
  refine (bigSep_elim hi).trans ?_
  rw [payload_crd]; unfold relPay
  exact bigSep_elim (Φ := fun i => Release.released ES (fwd s c, s, i) 1) (i := j) (s := Finset.univ.filter (· ≤ i)) (Finset.mem_filter.2 ⟨Finset.mem_univ _, hij⟩)

/-- The wait before hop `j + 2`, but for the last: the slot ahead may be written. -/
theorem crd_step (s : Bool) (c : Dev nD) (j : Fin 5) (hj : j.val < 4) (l : List Due) (hl : Above (3 * j.val + 2) l) :
    iprop(Rec m ∗ OW c l ∗ crSt m s c j.val ∗ cred (tallyAt (crdC s c) j.val 1) ∗ Release.writeTok ES (fwd s c, s, j) 1)
      ⊢ wpc c (semWaitWord (crdS s) 1#32) (fun _ => iprop(OW c l ∗ crSt m s c (j.val + 1) ∗ slotAny (fwd s c) s (cur ⟨j.val, by omega⟩))) := by
  unfold wpc semWaitWord OW crSt
  iintro ⟨#HR, ⟨%W, HO⟩, ⟨%T, Hat, HT⟩, Hc, Hw⟩
  ihave HI := (rec_crd m s c) $$ HR
  ihave Hl := (rec_lev m) $$ HR
  ihave HS := (rec_slot m (fwd s c, s, j)) $$ HR
  unfold know knowSlot
  icases HI with ⟨⟨%κ, #HI⟩, -⟩
  icases HS with ⟨%ι, #HS⟩
  iapply (Rounds.wp_wait 𝒱₀ ER (rd m) (c : Thread nD τ) none (κ := κ)
      (wpE_semWait_eq 𝒱₀ (c : Thread nD τ) none Set.univ) (Set.mem_univ _) (cr := Finsupp.single j.val 1) (O := sumD c l) (W := W)
      {(SemLoc.reg (crdS s), j.val)} (R := 0) (m := j.val) (T := T)
      (by rw [Util.total_single]; decide) (image_single_subset _ _ _)) $$ [Hc HO Hat Hl]
  · isplitr; · iexact HI
    isplitl [Hc]; · iexact Hc
    isplitl [HO]; · iexact HO
    isplitl [Hl]
    · iapply (mayWait c (.reg (crdS s)) j.val (3 * j.val + 2) j.isLt (by rw [role_crd]; exact le_rfl) l hl); iexact Hl
    iexact Hat
  iintro %S
  iintro ⟨%hS, HO, Hat, Hpay⟩
  obtain ⟨hTS, hSd, hcard⟩ := hS
  have hcS : j.val < S.card := by
    rw [expect_crd, duties_crd, Finset.card_sdiff_of_subset (Finset.subset_univ _), Finset.card_univ, Fintype.card_fin] at hcard
    have h1 : (1#32).toNat = 1 := by decide
    rw [h1] at hcard
    have h5 : S.card ≤ 5 := by simpa using Finset.card_le_univ S
    omega
  have hjoin : iprop(bigSep T (fun d => (rd m).payload (crdC s c) 0 d) ∗ bigSep (S \ T) (fun d => (rd m).payload (crdC s c) 0 d))
      ⊢ bigSep S (fun d => (rd m).payload (crdC s c) 0 d) := Entails.of_eq (BI.bigSep_sdiff_split hTS).symm
  ihave Hall := hjoin $$ [HT Hpay]
  · isplitl [HT] <;> iassumption
  have hrel : bigSep S (fun d => (rd m).payload (crdC s c) 0 d)
      ⊢ iprop(Release.released ES (fwd s c, s, j) 1 ∗ bigSep S (fun d => (rd m).payload (crdC s c) 0 d)) := by
    have hp : bigSep S (fun d => (rd m).payload (crdC s c) 0 d) = bigSep S (fun d => relPay (F := F) (fwd s c) s d) :=
      congrArg (bigSep S) (funext fun d => payload_crd m c s d)
    have hr := released_of_payloads m s c j S hcS
    rw [hp] at hr ⊢
    unfold relPay at hr ⊢
    iintro #H
    isplitr
    · iapply hr; iexact H
    · iexact H
  ihave H2 := hrel $$ Hall
  icases H2 with ⟨Hrel, Hall⟩
  imod (Release.slot_take ES (Set.mem_univ ι) (S := slotK (fwd s c, s, j)) 1) $$ [Hw Hrel] with Hslot
  · isplitr; · iexact HS
    isplitl [Hrel] <;> iassumption
  rw [wp_ret]; imodintro
  isplitl [HO]; · iexists _; iexact HO
  isplitl [Hat Hall]
  · iexists S; isplitl [Hat]; · iexact Hat
    iexact Hall
  unfold slotK; iexact Hslot

/-- The last wait, before hop 6; the cell is closed. -/
theorem crd_last (s : Bool) (c : Dev nD) (l : List Due) (hl : Above 14 l) :
    iprop(Rec m ∗ OW c l ∗ crSt m s c 4 ∗ cred (tallyAt (crdC s c) 4 1) ∗ Release.writeTok ES (fwd s c, s, 4) 1)
      ⊢ wpc c (semWaitWord (crdS s) 1#32) (fun _ => iprop(OW c l ∗ semVal (crdC s c) 0 ∗ slotAny (fwd s c) s (cur 4))) := by
  unfold wpc semWaitWord OW crSt
  iintro ⟨#HR, ⟨%W, HO⟩, ⟨%T, Hat, HT⟩, Hc, Hw⟩
  ihave HI := (rec_crd m s c) $$ HR
  ihave Hl := (rec_lev m) $$ HR
  ihave HS := (rec_slot m (fwd s c, s, 4)) $$ HR
  unfold know knowSlot
  icases HI with ⟨⟨%κ, #HI⟩, -⟩
  icases HS with ⟨%ι, #HS⟩
  iapply (Rounds.wp_wait_rest_token 𝒱₀ ER (rd m) (c : Thread nD τ) none (κ := κ)
      (wpE_semWait_eq 𝒱₀ (c : Thread nD τ) none Set.univ) (Set.mem_univ _) 4 (O := sumD c l) (W := W) (R := 0) (m := 4) (T := T)
      (by rw [expect_crd]; decide)) $$ [Hc HO Hat Hl]
  · isplitr; · iexact HI
    isplitl [Hc]; · iexact Hc
    isplitl [HO]; · iexact HO
    isplitl [Hl]; · iapply (mayWait c (.reg (crdS s)) 4 14 (by decide) (by rw [role_crd]; exact le_rfl) l hl); iexact Hl
    iexact Hat
  iintro ⟨HO, Hat, -, Hpay⟩
  have hrel : iprop(bigSep T (fun d => (rd m).payload (crdC s c) 0 d)
        ∗ bigSep ((rd m).duties (crdC s c) 0 \ T) (fun d => (rd m).payload (crdC s c) 0 d))
      ⊢ (Release.released ES (fwd s c, s, 4) 1 : sProp 𝕄) := by
    rw [duties_crd]
    refine (Entails.of_eq (BI.bigSep_sdiff_split (Φ := fun d => (rd m).payload (crdC s c) 0 d) (Finset.subset_univ T)).symm).trans ?_
    exact released_of_payloads m s c 4 Finset.univ (by decide)
  ihave Hrel := hrel $$ [HT Hpay]
  · isplitl [HT] <;> iassumption
  imod (Release.slot_take ES (Set.mem_univ ι) (S := slotK (fwd s c, s, 4)) 1) $$ [Hw Hrel] with Hslot
  · isplitr; · iexact HS
    isplitl [Hrel] <;> iassumption
  imod (Rounds.cell_close ER (rd m) (Set.mem_univ κ) (fun h => h) (R := 0 + 1) (duties_later m (crdC s c))) $$ [Hat] with Hz
  · isplitr; · iexact HI
    iexact Hat
  rw [wp_ret]; imodintro
  isplitl [HO]; · iexists _; iexact HO
  isplitl [Hz]; · iexact Hz
  unfold slotK; iexact Hslot

end Cert.KernelIdeal.Hand

end
-- ==== Proof.KernelIdeal.Hops.lean ====
/-
  The pieces of the body, both rings together: the barrier, the middle of a hop, the signals, the waits.
-/
module

public import proofs.«01_k».proof.Proof.KernelIdeal.Steps2

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## What is held between the pieces -/

/-- One of each ring. -/
abbrev two (Φ : Bool → sProp 𝕄) : sProp 𝕄 := iprop(Φ false ∗ Φ true)

/-- The blocks of hop `h`, each in its slot, -/
def Ready (c : Dev nD) (h : Fin 8) : sProp 𝕄 := two fun s => slotOwn c s (cur h) fullShare (blkX m s c h)
/-- the slots ahead that hop `h` writes, -/
def Free (c : Dev nD) (h : Fin 7) : sProp 𝕄 := two fun s => slotAny (fwd s c) s (nxtSlot h)
/-- what hop `h`'s copies need, -/
def Pk (c : Dev nD) (h : Fin 7) : sProp 𝕄 := two fun s =>
  iprop((atPos ER (sndC s h c) 0 ∅ 0 ∗ dutyTok ER (sndC s h c) 0 0 ∗ dutyTok ER (rcvC s h (fwd s c)) 0 0)
    ∗ atPos ER (rcvC s h c) 0 ∅ 0 ∗ cred (tallyAt (rcvC s h c) 0 (N s)))
/-- of that what the landings need, -/
def Pl (c : Dev nD) (h : Fin 7) : sProp 𝕄 := two fun s =>
  iprop(atPos ER (rcvC s h c) 0 ∅ 0 ∗ cred (tallyAt (rcvC s h c) 0 (N s)))
/-- the semaphores of hop `h` back at zero, -/
def Zs (c : Dev nD) (h : Fin 7) : sProp 𝕄 := two fun s => semVal (sndC s h c) 0
def Zr (c : Dev nD) (h : Fin 7) : sProp 𝕄 := two fun s => semVal (rcvC s h c) 0
/-- what the signals of hop `j` need, -/
def Ck (c : Dev nD) (j : Fin 5) : sProp 𝕄 := two fun s =>
  iprop(Release.readerAt ES (c, s, j) 0 ∗ dutyTok ER (crdC s (bwd s c)) 0 j)
/-- what the waits before hop `j + 2` need, -/
def Cw (c : Dev nD) (j : Fin 5) : sProp 𝕄 := two fun s =>
  iprop(cred (tallyAt (crdC s c) j.val 1) ∗ Release.writeTok ES (fwd s c, s, j) 1)
/-- what has been given up, -/
def Rel (c : Dev nD) (j : ℕ) : sProp 𝕄 := two fun s => relSt s c j
instance Rel_persistent (c : Dev nD) (j : ℕ) : BI.Persistent (Rel (F := F) c j) := by unfold Rel; infer_instance
/-- and the places in the credit cells. -/
def Cr (c : Dev nD) (n : ℕ) : sProp 𝕄 := two fun s => crSt m s c n

/-- The row blocks computed before hop `n`. -/
def doneS (c : Dev nD) (n : ℕ) : Finset (Bool × Dev nD) :=
  Finset.univ.filter fun p => ∃ h : Fin 8, h.val < n ∧ p.2 = srcOf p.1 c h
/-- Before the first product no row block is done. -/
theorem doneS_zero (c : Dev nD) : doneS c 0 = ∅ := by revert c; decide
/-- After the last all are. -/
theorem doneS_last (c : Dev nD) : doneS c 8 = Finset.univ := by revert c; decide +kernel
/-- One hop does two row blocks. -/
theorem doneS_succ (c : Dev nD) (h : Fin 8) :
    insert (true, srcOf true c h) (insert (false, srcOf false c h) (doneS c h.val)) = doneS c (h.val + 1) := by
  revert c h; decide +kernel

/-- The last step of a program. -/
theorem step_last {c : Dev nD} {A B : sProp 𝕄} {p : P F PUnit} {Q : PUnit → sProp 𝕄}
    (h : A ⊢ wpc c p (fun _ => B)) : A ⊢ iprop((B -∗ Q ⟨⟩) -∗ wpc c p Q) := by
  refine h.trans ?_
  iintro H Hk
  iapply (wp_wand frame (wpE (defs₀ (F := F)) 𝒱₀ (c : Thread nD τ) none) Set.univ) $$ H
  iintro %a HB
  iapply Hk; iexact HB

/-! ## The pieces -/

/-- The barrier: the own empty slots are handed to the devices behind, those of the devices ahead received. -/
theorem barrier_step (c dl dr : Dev nD) (hl : dl = bwd false c) (hr : dr = bwd true c) :
    iprop(Rec m ∗ OW c allDs ∗ (two fun s => iprop(dutyTok ER (barC (bwd s c)) 0 (bd s) ∗ slotAny c s 1 ∗ slotAny c s 2))
        ∗ atPos ER (barC c) 0 ∅ 0 ∗ cred (tallyAt (barC c) 0 2))
      ⊢ wpc c (barrier dl dr) (fun _ => iprop(OW c (restDs 7) ∗ Free c 0 ∗ Free c 1 ∗ semVal (barC c) 0)) := by
  unfold barrier allDs
  iintro ⟨#HR, HO, ⟨HA, HB⟩, Hat, Hc⟩
  iapply (step (signal_bar m false c dl hl (barD true :: restDs 7))) $$ [HO HA]
  · isplitr; · iexact HR
    isplitl [HO]; · iexact HO
    iexact HA
  iintro HO
  iapply (step (signal_bar m true c dr hr (restDs 7))) $$ [HO HB]
  · isplitr; · iexact HR
    isplitl [HO]; · iexact HO
    iexact HB
  iintro HO
  iapply (step_last (wait_bar m c (restDs 7) above_bar)) $$ [HO Hat Hc]
  · isplitr; · iexact HR
    isplitl [HO]; · iexact HO
    isplitl [Hat] <;> iassumption
  unfold barPay
  iintro ⟨HO, ⟨⟨HA1, HA2⟩, ⟨HB1, HB2⟩⟩, Hz⟩
  isplitl [HO]; · iexact HO
  isplitl [HA1 HB1]
  · unfold Free two; rw [show nxtSlot 0 = 1 from rfl]
    isplitl [HA1] <;> iassumption
  isplitl [HA2 HB2]
  · unfold Free two; rw [show nxtSlot 1 = 2 from rfl]
    isplitl [HA2] <;> iassumption
  iexact Hz

/-- The middle of hop `h`. -/
theorem hop_step (c : Dev nD) (h : Fin 7) (k : Fin 8) (hk : k = h.castSucc) (n n' : ℕ) (hn : n = 7 - h.val) (hn' : n' = 6 - h.val) (a a' : ℕ) (haa : a = k.val) (haa' : a' = k.val + 1)
    (da db : Dev nD) (ha : da = fwd false c) (hb : db = fwd true c) :
    iprop(Rec m ∗ OW c (restDs n) ∗ Ready m c k ∗ Free c h ∗ Pk c h ∗ vSt m c ∗ outSt m c (doneS c a))
      ⊢ wpc c (hopBody c h da db) (fun _ => iprop(OW c (crdDs h ++ restDs n') ∗ Ready m c k ∗ Pl c h ∗ Zs c h ∗ vSt m c ∗ outSt m c (doneS c a'))) := by
  subst haa haa' hk hn hn'
  unfold hopBody Ready Free Pk Pl Zs two
  rw [restDs_hop]
  iintro ⟨#HR, HO, ⟨HA, HB⟩, ⟨FA, FB⟩, ⟨⟨⟨A1, A2, A3⟩, A4⟩, ⟨⟨B1, B2, B3⟩, B4⟩⟩, Hv, Hout⟩
  ihave HA' := (owns_halves (c : Thread nD τ) (slot false (cur h.castSucc)) fullShare (blkX m false c h.castSucc)).1 $$ HA
  ihave HB' := (owns_halves (c : Thread nD τ) (slot true (cur h.castSucc)) fullShare (blkX m true c h.castSucc)).1 $$ HB
  icases HA' with ⟨HAl, HAr⟩
  icases HB' with ⟨HBl, HBr⟩
  iapply (step (start_step m false h c da ha (rcvD true h :: (crdDs h ++ restDs (6 - h.val))))) $$ [HO HAl FA A2 A3]
  · isplitr; · iexact HR
    isplitl [HO]; · iexact HO
    isplitl [HAl]; · iexact HAl
    isplitl [FA]; · iexact FA
    isplitl [A2] <;> iassumption
  iintro ⟨HO, CA⟩
  iapply (step (start_step m true h c db hb (crdDs h ++ restDs (6 - h.val)))) $$ [HO HBl FB B2 B3]
  · isplitr; · iexact HR
    isplitl [HO]; · iexact HO
    isplitl [HBl]; · iexact HBl
    isplitl [FB]; · iexact FB
    isplitl [B2] <;> iassumption
  iintro ⟨HO, CB⟩
  iapply (step (product_step m false c h.castSucc fullShare.right (doneS c h.castSucc.val))) $$ [HAr Hv Hout]
  · isplitl [HAr]; · iexact HAr
    isplitl [Hv] <;> iassumption
  iintro ⟨HAr, Hv, Hout⟩
  iapply (step (product_step m true c h.castSucc fullShare.right _)) $$ [HBr Hv Hout]
  · isplitl [HBr]; · iexact HBr
    isplitl [Hv] <;> iassumption
  iintro ⟨HBr, Hv, Hout⟩
  iapply (step (sent_step m false h c (crdDs h ++ restDs (6 - h.val)) (above_snd h))) $$ [HO A1 CA]
  · isplitr; · iexact HR
    isplitl [HO]; · iexact HO
    isplitl [A1] <;> iassumption
  iintro ⟨HO, HAl, ZA⟩
  iapply (step_last (sent_step m true h c (crdDs h ++ restDs (6 - h.val)) (above_snd h))) $$ [HO B1 CB]
  · isplitr; · iexact HR
    isplitl [HO]; · iexact HO
    isplitl [B1] <;> iassumption
  iintro ⟨HO, HBl, ZB⟩
  isplitl [HO]; · iexact HO
  isplitl [HAl HAr HBl HBr]
  · isplitl [HAl HAr]
    · iapply (owns_halves (c : Thread nD τ) (slot false (cur h.castSucc)) fullShare (blkX m false c h.castSucc)).2
      isplitl [HAl] <;> iassumption
    · iapply (owns_halves (c : Thread nD τ) (slot true (cur h.castSucc)) fullShare (blkX m true c h.castSucc)).2
      isplitl [HBl] <;> iassumption
  isplitl [A4 B4]
  · isplitl [A4] <;> iassumption
  isplitl [ZA ZB]
  · isplitl [ZA] <;> iassumption
  isplitl [Hv]; · iexact Hv
  rw [← doneS_succ]; iexact Hout

/-- The signals of hop `j`: both slots just sent from are given up. -/
theorem credSignal_step (c : Dev nD) (j : Fin 5) (h : Fin 7) (hh : h.val = j.val) (k : Fin 8) (hk : k = ⟨j.val, by omega⟩) (n i j' : ℕ) (hi : i = j.val) (hj' : j' = j.val + 1)
    (dl dr : Dev nD) (hl : dl = bwd false c) (hr : dr = bwd true c) :
    iprop(Rec m ∗ OW c (crdDs h ++ restDs n) ∗ Ready m c k ∗ Ck c j ∗ Rel c i)
      ⊢ wpc c (credSignal dl dr) (fun _ => iprop(OW c (restDs n) ∗ Rel c j')) := by
  subst hk hi hj'
  have hd : crdDs h = [crdD false j, crdD true j] := by
    have : h.val < 5 := by omega
    unfold crdDs; rw [dif_pos this]
    have e : (⟨h.val, this⟩ : Fin 5) = j := Fin.ext hh
    rw [e]
  rw [hd]
  unfold credSignal Ready Ck Rel two wpc
  iintro ⟨#HR, HO, ⟨HA, HB⟩, ⟨⟨A1, A2⟩, ⟨B1, B2⟩⟩, ⟨#RA, #RB⟩⟩
  ihave HA := (slotAny_of_own c false _ _) $$ HA
  ihave HB := (slotAny_of_own c true _ _) $$ HB
  imod (release_step m false c j) $$ [HA A1] with #RA'
  · isplitr; · iexact HR
    isplitl [A1]; · iexact A1
    isplitl [HA]; · iexact HA
    iexact RA
  imod (release_step m true c j) $$ [HB B1] with #RB'
  · isplitr; · iexact HR
    isplitl [B1]; · iexact B1
    isplitl [HB]; · iexact HB
    iexact RB
  iapply (step (signal_crd m false c dl hl j (crdD true j :: restDs n))) $$ [HO A2]
  · isplitr; · iexact HR
    isplitl [HO]; · iexact HO
    isplitl [A2]; · iexact A2
    iapply (relPay_of_relSt false c j); iexact RA'
  iintro HO
  iapply (step_last (signal_crd m true c dr hr j (restDs n))) $$ [HO B2]
  · isplitr; · iexact HR
    isplitl [HO]; · iexact HO
    isplitl [B2]; · iexact B2
    iapply (relPay_of_relSt true c j); iexact RB'
  iintro HO
  isplitl [HO]; · iexact HO
  isplitr
  · iexact RA'
  · iexact RB'

/-- The end of hop `h`: the next blocks are there. -/
theorem tail_step (c : Dev nD) (h : Fin 7) (k : Fin 8) (hk : k = h.succ) (n : ℕ) (hn : n = 6 - h.val) :
    iprop(Rec m ∗ OW c (restDs n) ∗ Pl c h)
      ⊢ wpc c (hopTail h) (fun _ => iprop(OW c (restDs n) ∗ Ready m c k ∗ Zr c h)) := by
  subst hk hn
  unfold hopTail Ready Pl Zr two
  iintro ⟨#HR, HO, ⟨HA, HB⟩⟩
  iapply (step (landed_step m false h c (restDs (6 - h.val)) (above_rcv h))) $$ [HO HA]
  · isplitr; · iexact HR
    isplitl [HO]; · iexact HO
    iexact HA
  iintro ⟨HO, HA, ZA⟩
  iapply (step_last (landed_step m true h c (restDs (6 - h.val)) (above_rcv h))) $$ [HO HB]
  · isplitr; · iexact HR
    isplitl [HO]; · iexact HO
    iexact HB
  iintro ⟨HO, HB, ZB⟩
  isplitl [HO]; · iexact HO
  isplitl [HA HB]
  · isplitl [HA] <;> iassumption
  · isplitl [ZA] <;> iassumption

/-- The slot given up at hop `j` is the one written at hop `j + 2`. -/
theorem cur_nxt (j : Fin 5) (h : Fin 7) (hh : h.val = j.val + 2) : cur ⟨j.val, by omega⟩ = nxtSlot h := by
  apply Fin.ext; show j.val % 3 = (h.val + 1) % 3; omega

/-- The waits before hop `h = j + 2`: the slots ahead are free. -/
theorem credWait_step (c : Dev nD) (j : Fin 5) (hj : j.val < 4) (h : Fin 7) (hh : h.val = j.val + 2) (n i j' : ℕ) (hn : n = 7 - h.val) (hi : i = j.val) (hj' : j' = j.val + 1) :
    iprop(Rec m ∗ OW c (restDs n) ∗ Cr m c i ∗ Cw c j)
      ⊢ wpc c credWait (fun _ => iprop(OW c (restDs n) ∗ Cr m c j' ∗ Free c h)) := by
  subst hn hi hj'
  have hl : Above (3 * j.val + 2) (restDs (7 - h.val)) := by
    have := above_crd h (by omega)
    rwa [show h.val - 2 = j.val from by omega] at this
  unfold credWait Cr Cw Free two
  rw [← cur_nxt j h hh]
  iintro ⟨#HR, HO, ⟨HA, HB⟩, ⟨⟨A1, A2⟩, ⟨B1, B2⟩⟩⟩
  iapply (step (crd_step m false c j hj (restDs (7 - h.val)) hl)) $$ [HO HA A1 A2]
  · isplitr; · iexact HR
    isplitl [HO]; · iexact HO
    isplitl [HA]; · iexact HA
    isplitl [A1] <;> iassumption
  iintro ⟨HO, HA, FA⟩
  iapply (step_last (crd_step m true c j hj (restDs (7 - h.val)) hl)) $$ [HO HB B1 B2]
  · isplitr; · iexact HR
    isplitl [HO]; · iexact HO
    isplitl [HB]; · iexact HB
    isplitl [B1] <;> iassumption
  iintro ⟨HO, HB, FB⟩
  isplitl [HO]; · iexact HO
  isplitl [HA HB]
  · isplitl [HA] <;> iassumption
  · isplitl [FA] <;> iassumption

/-- The waits before hop 6; the credit cells are closed. -/
theorem credLast_step (c : Dev nD) :
    iprop(Rec m ∗ OW c (restDs 1) ∗ Cr m c 4 ∗ Cw c 4)
      ⊢ wpc c credWait (fun _ => iprop(OW c (restDs 1) ∗ (two fun s => semVal (crdC s c) 0) ∗ Free c 6)) := by
  have hl : Above 14 (restDs 1) := above_crd 6 (by decide)
  unfold credWait Cr Cw Free two
  rw [show (4 : Fin 5).val = 4 from rfl, show nxtSlot 6 = cur 4 from rfl]
  iintro ⟨#HR, HO, ⟨HA, HB⟩, ⟨⟨A1, A2⟩, ⟨B1, B2⟩⟩⟩
  iapply (step (crd_last m false c (restDs 1) hl)) $$ [HO HA A1 A2]
  · isplitr; · iexact HR
    isplitl [HO]; · iexact HO
    isplitl [HA]; · iexact HA
    isplitl [A1] <;> iassumption
  iintro ⟨HO, HA, FA⟩
  iapply (step_last (crd_last m true c (restDs 1) hl)) $$ [HO HB B1 B2]
  · isplitr; · iexact HR
    isplitl [HO]; · iexact HO
    isplitl [HB]; · iexact HB
    isplitl [B1] <;> iassumption
  iintro ⟨HO, HB, FB⟩
  isplitl [HO]; · iexact HO
  isplitl [HA HB]
  · isplitl [HA] <;> iassumption
  · isplitl [FA] <;> iassumption

/-- The two products after the last landing. -/
theorem last_step (c : Dev nD) :
    iprop(Ready m c 7 ∗ vSt m c ∗ outSt m c (doneS c 7))
      ⊢ wpc c (do product false c 7; product true c 7) (fun _ => iprop(Ready m c 7 ∗ vSt m c ∗ outSt m c Finset.univ)) := by
  unfold Ready two
  iintro ⟨⟨HA, HB⟩, Hv, Hout⟩
  iapply (step (product_step m false c 7 fullShare (doneS c 7))) $$ [HA Hv Hout]
  · isplitl [HA]; · iexact HA
    isplitl [Hv] <;> iassumption
  iintro ⟨HA, Hv, Hout⟩
  iapply (step_last (product_step m true c 7 fullShare _)) $$ [HB Hv Hout]
  · isplitl [HB]; · iexact HB
    isplitl [Hv] <;> iassumption
  iintro ⟨HB, Hv, Hout⟩
  isplitl [HA HB]
  · isplitl [HA] <;> iassumption
  isplitl [Hv]; · iexact Hv
  have e : insert (true, srcOf true c 7) (insert (false, srcOf false c 7) (doneS c 7)) = Finset.univ := (doneS_succ c 7).trans (doneS_last c)
  rw [← e]; iexact Hout

/-- With every row block computed the buffer holds the result. -/
theorem outSt_univ (c : Dev nD) : outSt m c Finset.univ ⊢ (((c : Thread nD τ).loc cc0_stg2_0) ↦{fullShare} (outAt m c) : sProp 𝕄) := by
  unfold outSt
  iintro ⟨%f, %hf, H⟩
  have : f = outAt m c := funext fun i => hf i (Finset.mem_univ _)
  rw [← this]; iexact H
/-- Any contents are right where nothing is done. -/
theorem outSt_empty (c : Dev nD) (f : Buf (Elt F) ((c : Thread nD τ).loc cc0_stg2_0)) :
    (((c : Thread nD τ).loc cc0_stg2_0) ↦{fullShare} f : sProp 𝕄) ⊢ outSt m c (doneS c 0) := by
  unfold outSt
  iintro H
  iexists f; isplitr
  · ipureintro; rw [doneS_zero]; exact fun i hi => absurd hi (Finset.notMem_empty _)
  · iexact H

end Cert.KernelIdeal.Hand

end
-- ==== Proof.KernelIdeal.Body.lean ====
/-
  The body, piece after piece.
-/
module

public import proofs.«01_k».proof.Proof.KernelIdeal.Hops

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The slots of the rings -/

/-- A ring's buffer of three slots, with any contents. -/
def scr (s : Bool) (c : Dev nD) : sProp 𝕄 :=
  iprop(∃ f : Buf (Elt F) ((buf s).view.loc (c : Thread nD τ)), ((buf s).view.loc (c : Thread nD τ)) ↦{fullShare} f)

/-- A slot's elements as a rectangle of its buffer. -/
theorem slot_rect (s : Bool) (k : Fin 3) : (slot s k).view.set = (slotR k).set.map (buf s).view.emb :=
  (View.set_reshape _ _).trans (View.set_slice _ _)

/-- Different slots are apart. -/
theorem slotR_disjoint (k k' : Fin 3) (h : k ≠ k') : Disjoint (slotR k).set (slotR k').set :=
  Ring.lead_disjoint (s := S3x256x4096) (NB := 3) (0 : Fin 3) 1 (fun k => ![k.val, 0, 0]) S1x256x4096.size inbSlot
    (fun b => (Nat.one_mul _).symm) rfl k k' h
/-- The three slots make up the buffer. -/
theorem slotR_cover : Finset.univ.biUnion (fun k : Fin 3 => (slotR k).set) = Finset.univ :=
  Ring.lead_cover (s := S3x256x4096) (NB := 3) (0 : Fin 3) 1 (fun k => ![k.val, 0, 0]) S1x256x4096.size inbSlot
    (fun b => (Nat.one_mul _).symm) (by decide) rfl (by decide) rfl

/-- A slot's elements, as elements of its ring's buffer on device `c`. -/
abbrev slotJ (c : Dev nD) (s : Bool) (k : Fin 3) : Finset (Idx ((buf s).view.loc (c : Thread nD τ))) := (slot s k).view.set
/-- Different slots' elements are apart, -/
theorem slots_disjoint (c : Dev nD) (s : Bool) (k k' : Fin 3) (h : k ≠ k') : Disjoint (slotJ c s k) (slotJ c s k') := by
  unfold slotJ
  rw [slot_rect, slot_rect]
  exact (Finset.disjoint_map _).2 (slotR_disjoint k k' h)
/-- and together all of the buffer's. -/
theorem slots_cover (c : Dev nD) (s : Bool) : Finset.univ.biUnion (slotJ c s) = Finset.univ := by
  refine Finset.eq_univ_iff_forall.2 fun i => ?_
  have hw : ∃ x, (buf s).view.emb x = i := by cases s <;> exact ⟨i, rfl⟩
  obtain ⟨x, rfl⟩ := hw
  have hx := Finset.mem_univ x
  rw [← slotR_cover] at hx
  obtain ⟨k, hk, hxk⟩ := Finset.mem_biUnion.1 hx
  refine Finset.mem_biUnion.2 ⟨k, hk, ?_⟩
  unfold slotJ
  rw [slot_rect]
  exact Finset.mem_map_of_mem _ hxk

/-- A buffer is its three slots. -/
theorem scr_split (s : Bool) (c : Dev nD) : (scr s c : sProp 𝕄) ⊢ iprop(slotAny c s 0 ∗ slotAny c s 1 ∗ slotAny c s 2) := by
  unfold scr
  exact Ring.slots3_split (ℓ := (buf s).view.loc (c : Thread nD τ)) (slotJ c s) (slots_disjoint c s) (slots_cover c s)
    _ _ _ (fun _ => rfl) (fun _ => rfl) (fun _ => rfl)
/-- Three slots are the buffer. -/
theorem scr_join (s : Bool) (c : Dev nD) : iprop(slotAny c s 0 ∗ slotAny c s 1 ∗ slotAny c s 2) ⊢ (scr s c : sProp 𝕄) := by
  unfold scr
  exact Ring.slots3_join (ℓ := (buf s).view.loc (c : Thread nD τ)) (slotJ c s) (slots_disjoint c s) (slots_cover c s)
    _ _ _ (fun _ => rfl) (fun _ => rfl) (fun _ => rfl)

/-! ## The neighbours, as the body computes them -/

/-- The printed target number 1 is a neighbour. -/
theorem dev1 (c : Dev nD) : (⟨k0_dev1 c, k0_dev1_lt c⟩ : Dev nD) = bwd false c := by revert c; decide +kernel
/-- The printed target number 2 is a neighbour. -/
theorem dev2 (c : Dev nD) : (⟨k0_dev2 c, k0_dev2_lt c⟩ : Dev nD) = bwd true c := by revert c; decide +kernel
/-- The printed target number 3 is a neighbour. -/
theorem dev3 (c : Dev nD) : (⟨k0_dev3 c, k0_dev3_lt c⟩ : Dev nD) = fwd false c := by revert c; decide +kernel
/-- The printed target number 4 is a neighbour. -/
theorem dev4 (c : Dev nD) : (⟨k0_dev4 c, k0_dev4_lt c⟩ : Dev nD) = fwd true c := by revert c; decide +kernel
/-- The printed target number 5 is a neighbour. -/
theorem dev5 (c : Dev nD) : (⟨k0_dev5 c, k0_dev5_lt c⟩ : Dev nD) = bwd false c := by revert c; decide +kernel
/-- The printed target number 6 is a neighbour. -/
theorem dev6 (c : Dev nD) : (⟨k0_dev6 c, k0_dev6_lt c⟩ : Dev nD) = bwd true c := by revert c; decide +kernel
/-- The printed target number 7 is a neighbour. -/
theorem dev7 (c : Dev nD) : (⟨k0_dev7 c, k0_dev7_lt c⟩ : Dev nD) = fwd false c := by revert c; decide +kernel
/-- The printed target number 8 is a neighbour. -/
theorem dev8 (c : Dev nD) : (⟨k0_dev8 c, k0_dev8_lt c⟩ : Dev nD) = fwd true c := by revert c; decide +kernel
/-- The printed target number 9 is a neighbour. -/
theorem dev9 (c : Dev nD) : (⟨k0_dev9 c, k0_dev9_lt c⟩ : Dev nD) = bwd false c := by revert c; decide +kernel
/-- The printed target number 10 is a neighbour. -/
theorem dev10 (c : Dev nD) : (⟨k0_dev10 c, k0_dev10_lt c⟩ : Dev nD) = bwd true c := by revert c; decide +kernel
/-- The printed target number 11 is a neighbour. -/
theorem dev11 (c : Dev nD) : (⟨k0_dev11 c, k0_dev11_lt c⟩ : Dev nD) = fwd false c := by revert c; decide +kernel
/-- The printed target number 12 is a neighbour. -/
theorem dev12 (c : Dev nD) : (⟨k0_dev12 c, k0_dev12_lt c⟩ : Dev nD) = fwd true c := by revert c; decide +kernel
/-- The printed target number 13 is a neighbour. -/
theorem dev13 (c : Dev nD) : (⟨k0_dev13 c, k0_dev13_lt c⟩ : Dev nD) = bwd false c := by revert c; decide +kernel
/-- The printed target number 14 is a neighbour. -/
theorem dev14 (c : Dev nD) : (⟨k0_dev14 c, k0_dev14_lt c⟩ : Dev nD) = bwd true c := by revert c; decide +kernel
/-- The printed target number 15 is a neighbour. -/
theorem dev15 (c : Dev nD) : (⟨k0_dev15 c, k0_dev15_lt c⟩ : Dev nD) = fwd false c := by revert c; decide +kernel
/-- The printed target number 16 is a neighbour. -/
theorem dev16 (c : Dev nD) : (⟨k0_dev16 c, k0_dev16_lt c⟩ : Dev nD) = fwd true c := by revert c; decide +kernel
/-- The printed target number 17 is a neighbour. -/
theorem dev17 (c : Dev nD) : (⟨k0_dev17 c, k0_dev17_lt c⟩ : Dev nD) = bwd false c := by revert c; decide +kernel
/-- The printed target number 18 is a neighbour. -/
theorem dev18 (c : Dev nD) : (⟨k0_dev18 c, k0_dev18_lt c⟩ : Dev nD) = bwd true c := by revert c; decide +kernel
/-- The printed target number 19 is a neighbour. -/
theorem dev19 (c : Dev nD) : (⟨k0_dev19 c, k0_dev19_lt c⟩ : Dev nD) = fwd false c := by revert c; decide +kernel
/-- The printed target number 20 is a neighbour. -/
theorem dev20 (c : Dev nD) : (⟨k0_dev20 c, k0_dev20_lt c⟩ : Dev nD) = fwd true c := by revert c; decide +kernel
/-- The printed target number 21 is a neighbour. -/
theorem dev21 (c : Dev nD) : (⟨k0_dev21 c, k0_dev21_lt c⟩ : Dev nD) = bwd false c := by revert c; decide +kernel
/-- The printed target number 22 is a neighbour. -/
theorem dev22 (c : Dev nD) : (⟨k0_dev22 c, k0_dev22_lt c⟩ : Dev nD) = bwd true c := by revert c; decide +kernel
/-- The printed target number 23 is a neighbour. -/
theorem dev23 (c : Dev nD) : (⟨k0_dev23 c, k0_dev23_lt c⟩ : Dev nD) = fwd false c := by revert c; decide +kernel
/-- The printed target number 24 is a neighbour. -/
theorem dev24 (c : Dev nD) : (⟨k0_dev24 c, k0_dev24_lt c⟩ : Dev nD) = fwd true c := by revert c; decide +kernel
/-- The printed target number 25 is a neighbour. -/
theorem dev25 (c : Dev nD) : (⟨k0_dev25 c, k0_dev25_lt c⟩ : Dev nD) = fwd false c := by revert c; decide +kernel
/-- The printed target number 26 is a neighbour. -/
theorem dev26 (c : Dev nD) : (⟨k0_dev26 c, k0_dev26_lt c⟩ : Dev nD) = fwd true c := by revert c; decide +kernel

/-! ## The run of the body -/

/-- Seven conjuncts written out. -/
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
/-- Five conjuncts written out. -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- What device `c` starts with, beside its buffers. -/
def Res (c : Dev nD) : sProp 𝕄 :=
  iprop(atPos ER (barC c) 0 ∅ 0 ∗ cred (tallyAt (barC c) 0 2) ∗ (two fun s => dutyTok ER (barC (bwd s c)) 0 (bd s))
    ∗ (two fun s => atPos ER (crdC s c) 0 ∅ 0)
    ∗ (bigSep Finset.univ fun h => Pk c h) ∗ (bigSep Finset.univ fun j => Ck c j) ∗ (bigSep Finset.univ fun j => Cw c j))

/-- Before the first hop no slot has been given up. -/
theorem rel_zero (c : Dev nD) : iprop(emp) ⊢ (Rel c 0 : sProp 𝕄) := by
  unfold Rel two relSt
  rw [show Finset.univ.filter (fun i : Fin 5 => i.val < 0) = ∅ from by decide]
  simp only [bigSep_empty]
  iintro -
  isplitr
  · iempintro
  · iempintro
/-- Before the first hop no credit has been taken. -/
theorem cr_zero (c : Dev nD) : (two fun s => atPos ER (crdC s c) 0 ∅ 0) ⊢ (Cr m c 0 : sProp 𝕄) := by
  unfold Cr two crSt
  iintro ⟨HA, HB⟩
  isplitl [HA]
  · iexists ∅; isplitl [HA]; · iexact HA
    rw [bigSep_empty]; iempintro
  · iexists ∅; isplitl [HB]; · iexact HB
    rw [bigSep_empty]; iempintro

/-- The slots of the last three blocks make up the buffers again. -/
theorem scr_back (c : Dev nD) : iprop(Ready m c 5 ∗ Ready m c 6 ∗ Ready m c 7) ⊢ (two fun s => scr s c : sProp 𝕄) := by
  have e5 : cur 5 = 2 := rfl
  have e6 : cur 6 = 0 := rfl
  have e7 : cur 7 = 1 := rfl
  unfold Ready two
  rw [e5, e6, e7]
  iintro ⟨⟨A5, B5⟩, ⟨A6, B6⟩, ⟨A7, B7⟩⟩
  isplitl [A5 A6 A7]
  · iapply (scr_join false c)
    isplitl [A6]; · iapply (slotAny_of_own c false _ _); iexact A6
    isplitl [A7]; · iapply (slotAny_of_own c false _ _); iexact A7
    iapply (slotAny_of_own c false _ _); iexact A5
  · iapply (scr_join true c)
    isplitl [B6]; · iapply (slotAny_of_own c true _ _); iexact B6
    isplitl [B7]; · iapply (slotAny_of_own c true _ _); iexact B7
    iapply (slotAny_of_own c true _ _); iexact B5

/-- The scratch copy of the weight block, with any contents. -/
def vAny (c : Dev nD) : sProp 𝕄 := iprop(∃ f : Buf (Elt F) ((c : Thread nD τ).loc cc0_scratch2), ((c : Thread nD τ).loc cc0_scratch2) ↦{fullShare} f)
/-- The result's staging buffer, with any contents, and with the result. -/
def oAny (c : Dev nD) : sProp 𝕄 := iprop(∃ f : Buf (Elt F) ((c : Thread nD τ).loc cc0_stg2_0), ((c : Thread nD τ).loc cc0_stg2_0) ↦{fullShare} f)
def oSt (c : Dev nD) : sProp 𝕄 := iprop(((c : Thread nD τ).loc cc0_stg2_0) ↦{fullShare} (outAt m c))
/-- The scratch weight block with some contents. -/
theorem vAny_of (c : Dev nD) : vSt m c ⊢ (vAny c : sProp 𝕄) := by
  unfold vSt vAny; iintro H; iexists _; iexact H

set_option maxHeartbeats 1600000 in
/-- The body on device `c`: from its buffers and what it starts with, to the result, the buffers, every semaphore at
    zero and nothing owed. -/
theorem body_step (c : Dev nD) :
    iprop(Rec m ∗ OW c allDs ∗ Res c ∗ (two fun s => scr s c) ∗ vAny c ∗ xSt m c ∗ wSt m c ∗ oAny c)
      ⊢ wpc c (body (F := F)) (fun _ => iprop(OW c [] ∗ semVal (barC c) 0 ∗ (two fun s => semVal (crdC s c) 0)
          ∗ (bigSep Finset.univ fun h : Fin 7 => iprop(Zs c h ∗ Zr c h)) ∗ (two fun s => scr s c) ∗ vAny c ∗ xSt m c ∗ wSt m c ∗ oSt m c)) := by
  unfold Res
  rw [bigSep_seven (fun h => Pk (F := F) c h), bigSep_five, bigSep_five]
  iintro ⟨#HR, HO, ⟨Hbat, Hbcr, ⟨TA, TB⟩, Hcr, ⟨P0, P1, P2, P3, P4, P5, P6⟩, ⟨K0, K1, K2, K3, K4⟩, ⟨W0, W1, W2, W3, W4⟩⟩, ⟨SA, SB⟩, Hv, Hx, Hw, Ho⟩
  ihave SA := (scr_split false c) $$ SA
  ihave SB := (scr_split true c) $$ SB
  icases SA with ⟨A0, A1, A2⟩
  icases SB with ⟨B0, B1, B2⟩
  ihave Hcr := (cr_zero m c) $$ Hcr
  unfold oAny
  icases Ho with ⟨%fo, Ho⟩
  ihave Ho := (outSt_empty m c fo) $$ Ho
  ihave #Hrel : Rel c 0 $$ []
  · iapply (rel_zero (F := F) c); iempintro
  unfold body
  rw [show ∀ (k : Dev nD → P F PUnit), (Prog.lift .deviceId >>= k) = .op .deviceId k from fun _ => rfl]
  unfold wpc
  rw [wp_deviceId]
  iapply (step (barrier_step m c _ _ (dev1 c) (dev2 c))) $$ [HO TA TB A1 A2 B1 B2 Hbat Hbcr]
  · isplitr; · iexact HR
    isplitl [HO]; · iexact HO
    isplitl [TA TB A1 A2 B1 B2]
    · isplitl [TA A1 A2]
      · isplitl [TA]; · iexact TA
        isplitl [A1] <;> iassumption
      · isplitl [TB]; · iexact TB
        isplitl [B1] <;> iassumption
    isplitl [Hbat] <;> iassumption
  iintro ⟨HO, F0, F1, Hz⟩
  iapply (step (fill_step m c)) $$ [Hx Hw Hv A0 B0]
  · isplitl [Hx]; · iexact Hx
    isplitl [Hw]; · iexact Hw
    isplitl [Hv]; · unfold vAny; iexact Hv
    isplitl [A0] <;> iassumption
  iintro ⟨Hx, Hw, Hv, A0, B0⟩
  ihave R : Ready m c 0 $$ [A0 B0]
  · unfold Ready two; rw [show cur 0 = 0 from rfl]
    isplitl [A0] <;> iassumption
  iapply (step (hop_step m c 0 0 rfl 7 6 rfl rfl 0 1 rfl rfl _ _ (dev3 c) (dev4 c))) $$ [HO R F0 P0 Hv Ho]
  · isplitr; · iexact HR
    isplitl [HO]; · iexact HO
    isplitl [R]; · iexact R
    isplitl [F0]; · iexact F0
    isplitl [P0]; · iexact P0
    isplitl [Hv] <;> iassumption
  iintro ⟨HO, R, P0, Zs0, Hv, Ho⟩
  iapply (step (credSignal_step m c 0 0 rfl 0 rfl 6 0 1 rfl rfl _ _ (dev5 c) (dev6 c))) $$ [HO R K0]
  · isplitr; · iexact HR
    isplitl [HO]; · iexact HO
    isplitl [R]; · iexact R
    isplitl [K0]; · iexact K0
    iexact Hrel
  iclear Hrel
  iintro ⟨HO, #Hrel⟩
  iapply (step (tail_step m c 0 1 rfl 6 rfl)) $$ [HO P0]
  · isplitr; · iexact HR
    isplitl [HO]; · iexact HO
    iexact P0
  iintro ⟨HO, R, Zr0⟩
  iapply (step (hop_step m c 1 1 rfl 6 5 rfl rfl 1 2 rfl rfl _ _ (dev7 c) (dev8 c))) $$ [HO R F1 P1 Hv Ho]
  · isplitr; · iexact HR
    isplitl [HO]; · iexact HO
    isplitl [R]; · iexact R
    isplitl [F1]; · iexact F1
    isplitl [P1]; · iexact P1
    isplitl [Hv] <;> iassumption
  iintro ⟨HO, R, P1, Zs1, Hv, Ho⟩
  iapply (step (credSignal_step m c 1 1 rfl 1 rfl 5 1 2 rfl rfl _ _ (dev9 c) (dev10 c))) $$ [HO R K1]
  · isplitr; · iexact HR
    isplitl [HO]; · iexact HO
    isplitl [R]; · iexact R
    isplitl [K1]; · iexact K1
    iexact Hrel
  iclear Hrel
  iintro ⟨HO, #Hrel⟩
  iapply (step (tail_step m c 1 2 rfl 5 rfl)) $$ [HO P1]
  · isplitr; · iexact HR
    isplitl [HO]; · iexact HO
    iexact P1
  iintro ⟨HO, R, Zr1⟩
  iapply (step (credWait_step m c 0 (by decide) 2 rfl 5 0 1 rfl rfl rfl)) $$ [HO Hcr W0]
  · isplitr; · iexact HR
    isplitl [HO]; · iexact HO
    isplitl [Hcr] <;> iassumption
  iintro ⟨HO, Hcr, F2⟩
  iapply (step (hop_step m c 2 2 rfl 5 4 rfl rfl 2 3 rfl rfl _ _ (dev11 c) (dev12 c))) $$ [HO R F2 P2 Hv Ho]
  · isplitr; · iexact HR
    isplitl [HO]; · iexact HO
    isplitl [R]; · iexact R
    isplitl [F2]; · iexact F2
    isplitl [P2]; · iexact P2
    isplitl [Hv] <;> iassumption
  iintro ⟨HO, R, P2, Zs2, Hv, Ho⟩
  iapply (step (credSignal_step m c 2 2 rfl 2 rfl 4 2 3 rfl rfl _ _ (dev13 c) (dev14 c))) $$ [HO R K2]
  · isplitr; · iexact HR
    isplitl [HO]; · iexact HO
    isplitl [R]; · iexact R
    isplitl [K2]; · iexact K2
    iexact Hrel
  iclear Hrel
  iintro ⟨HO, #Hrel⟩
  iapply (step (tail_step m c 2 3 rfl 4 rfl)) $$ [HO P2]
  · isplitr; · iexact HR
    isplitl [HO]; · iexact HO
    iexact P2
  iintro ⟨HO, R, Zr2⟩
  iapply (step (credWait_step m c 1 (by decide) 3 rfl 4 1 2 rfl rfl rfl)) $$ [HO Hcr W1]
  · isplitr; · iexact HR
    isplitl [HO]; · iexact HO
    isplitl [Hcr] <;> iassumption
  iintro ⟨HO, Hcr, F3⟩
  iapply (step (hop_step m c 3 3 rfl 4 3 rfl rfl 3 4 rfl rfl _ _ (dev15 c) (dev16 c))) $$ [HO R F3 P3 Hv Ho]
  · isplitr; · iexact HR
    isplitl [HO]; · iexact HO
    isplitl [R]; · iexact R
    isplitl [F3]; · iexact F3
    isplitl [P3]; · iexact P3
    isplitl [Hv] <;> iassumption
  iintro ⟨HO, R, P3, Zs3, Hv, Ho⟩
  iapply (step (credSignal_step m c 3 3 rfl 3 rfl 3 3 4 rfl rfl _ _ (dev17 c) (dev18 c))) $$ [HO R K3]
  · isplitr; · iexact HR
    isplitl [HO]; · iexact HO
    isplitl [R]; · iexact R
    isplitl [K3]; · iexact K3
    iexact Hrel
  iclear Hrel
  iintro ⟨HO, #Hrel⟩
  iapply (step (tail_step m c 3 4 rfl 3 rfl)) $$ [HO P3]
  · isplitr; · iexact HR
    isplitl [HO]; · iexact HO
    iexact P3
  iintro ⟨HO, R, Zr3⟩
  iapply (step (credWait_step m c 2 (by decide) 4 rfl 3 2 3 rfl rfl rfl)) $$ [HO Hcr W2]
  · isplitr; · iexact HR
    isplitl [HO]; · iexact HO
    isplitl [Hcr] <;> iassumption
  iintro ⟨HO, Hcr, F4⟩
  iapply (step (hop_step m c 4 4 rfl 3 2 rfl rfl 4 5 rfl rfl _ _ (dev19 c) (dev20 c))) $$ [HO R F4 P4 Hv Ho]
  · isplitr; · iexact HR
    isplitl [HO]; · iexact HO
    isplitl [R]; · iexact R
    isplitl [F4]; · iexact F4
    isplitl [P4]; · iexact P4
    isplitl [Hv] <;> iassumption
  iintro ⟨HO, R, P4, Zs4, Hv, Ho⟩
  iapply (step (credSignal_step m c 4 4 rfl 4 rfl 2 4 5 rfl rfl _ _ (dev21 c) (dev22 c))) $$ [HO R K4]
  · isplitr; · iexact HR
    isplitl [HO]; · iexact HO
    isplitl [R]; · iexact R
    isplitl [K4]; · iexact K4
    iexact Hrel
  iclear Hrel
  iintro ⟨HO, #Hrel⟩
  iapply (step (tail_step m c 4 5 rfl 2 rfl)) $$ [HO P4]
  · isplitr; · iexact HR
    isplitl [HO]; · iexact HO
    iexact P4
  iintro ⟨HO, R, Zr4⟩
  iapply (step (credWait_step m c 3 (by decide) 5 rfl 2 3 4 rfl rfl rfl)) $$ [HO Hcr W3]
  · isplitr; · iexact HR
    isplitl [HO]; · iexact HO
    isplitl [Hcr] <;> iassumption
  iintro ⟨HO, Hcr, F5⟩
  iapply (step (hop_step m c 5 5 rfl 2 1 rfl rfl 5 6 rfl rfl _ _ (dev23 c) (dev24 c))) $$ [HO R F5 P5 Hv Ho]
  · isplitr; · iexact HR
    isplitl [HO]; · iexact HO
    isplitl [R]; · iexact R
    isplitl [F5]; · iexact F5
    isplitl [P5]; · iexact P5
    isplitl [Hv] <;> iassumption
  iintro ⟨HO, R5, P5, Zs5, Hv, Ho⟩
  iapply (step (tail_step m c 5 6 rfl 1 rfl)) $$ [HO P5]
  · isplitr; · iexact HR
    isplitl [HO]; · iexact HO
    iexact P5
  iintro ⟨HO, R, Zr5⟩
  iapply (step (credLast_step m c)) $$ [HO Hcr W4]
  · isplitr; · iexact HR
    isplitl [HO]; · iexact HO
    isplitl [Hcr] <;> iassumption
  iintro ⟨HO, Hzc, F6⟩
  iapply (step (hop_step m c 6 6 rfl 1 0 rfl rfl 6 7 rfl rfl _ _ (dev25 c) (dev26 c))) $$ [HO R F6 P6 Hv Ho]
  · isplitr; · iexact HR
    isplitl [HO]; · iexact HO
    isplitl [R]; · iexact R
    isplitl [F6]; · iexact F6
    isplitl [P6]; · iexact P6
    isplitl [Hv] <;> iassumption
  iintro ⟨HO, R6, P6, Zs6, Hv, Ho⟩
  iapply (step (tail_step m c 6 7 rfl 0 rfl)) $$ [HO P6]
  · isplitr; · iexact HR
    isplitl [HO]; · iexact HO
    iexact P6
  iintro ⟨HO, R, Zr6⟩
  iapply (step_last (last_step m c)) $$ [R Hv Ho]
  · isplitl [R]; · iexact R
    isplitl [Hv] <;> iassumption
  iintro ⟨R, Hv, Ho⟩
  isplitl [HO]; · iexact HO
  isplitl [Hz]; · iexact Hz
  isplitl [Hzc]; · iexact Hzc
  isplitl [Zs0 Zs1 Zs2 Zs3 Zs4 Zs5 Zs6 Zr0 Zr1 Zr2 Zr3 Zr4 Zr5 Zr6]
  · rw [bigSep_seven]
    isplitl [Zs0 Zr0]
    · isplitl [Zs0] <;> iassumption
    isplitl [Zs1 Zr1]
    · isplitl [Zs1] <;> iassumption
    isplitl [Zs2 Zr2]
    · isplitl [Zs2] <;> iassumption
    isplitl [Zs3 Zr3]
    · isplitl [Zs3] <;> iassumption
    isplitl [Zs4 Zr4]
    · isplitl [Zs4] <;> iassumption
    isplitl [Zs5 Zr5]
    · isplitl [Zs5] <;> iassumption
    isplitl [Zs6] <;> iassumption
  isplitl [R5 R6 R]
  · iapply (scr_back m c)
    isplitl [R5]; · iexact R5
    isplitl [R6] <;> iassumption
  isplitl [Hv]; · iapply (vAny_of m c); iexact Hv
  isplitl [Hx]; · iexact Hx
  isplitl [Hw]; · iexact Hw
  unfold oSt
  iapply (outSt_univ m c); iexact Ho

end Cert.KernelIdeal.Hand

end
-- ==== Proof.KernelIdeal.Ghost.lean ====
/-
  The launch's ghost state: what it makes, and how it is dealt to the devices. The tokens of a cell go to the
  neighbour that raises it, a slot's write token to the neighbour that writes it; what everybody may know
  (the cells' schedules, the slots' invariants) goes to all.
-/
module

public import proofs.«01_k».proof.Proof.KernelIdeal.Body

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Separating conjunction as an associative and commutative operation -/

/-- Separating conjunction is associative. -/
theorem sep_assoc_eq (P Q R : sProp 𝕄) : iprop((P ∗ Q) ∗ R) = iprop(P ∗ Q ∗ R) := equiv_iff.mp ⟨BI.sep_assoc, BI.sep_assoc'⟩
/-- `emp` is its unit. -/
theorem emp_sep_eq (P : sProp 𝕄) : iprop(emp ∗ P) = P := equiv_iff.mp ⟨BI.emp_sep.1, BI.emp_sep.2⟩
instance sep_comm_inst : _root_.Std.Commutative (α := sProp 𝕄) BIBase.sep :=
  ⟨fun P Q => _root_.Std.Commutative.comm (op := fun P Q : sProp 𝕄 => BI.sep P Q) P Q⟩
instance sep_assoc_inst : _root_.Std.Associative (α := sProp 𝕄) BIBase.sep :=
  ⟨fun P Q R => _root_.Std.Associative.assoc (op := fun P Q : sProp 𝕄 => BI.sep P Q) P Q R⟩

/-! ## The cells of a device, by what they are for -/

/-- A conjunction over a device's 31 semaphores by kind. -/
theorem split31 (Φ : Fin 31 → sProp 𝕄) :
    bigSep Finset.univ Φ = iprop(Φ 0 ∗ two fun s => iprop(Φ (crdIx s)
      ∗ (bigSep Finset.univ fun h : Fin 7 => Φ (sndIx s h)) ∗ (bigSep Finset.univ fun h : Fin 7 => Φ (rcvIx s h)))) := by
  rw [bigSep_univ_eq_bigSepL [0, 1, 3, 4, 5, 6, 7, 8, 9, 10, 11, 12, 13, 14, 15, 16,
    2, 17, 18, 19, 20, 21, 22, 23, 24, 25, 26, 27, 28, 29, 30] (by decide) (by decide) Φ]
  unfold two
  simp only [bigSep_seven, sep_assoc_eq]
  rfl

/-- The same of the semaphores as cells. -/
theorem split_cells (Ψ : GSem nD τ sig → sProp 𝕄) (c : Dev nD) :
    (bigSep Finset.univ fun k : Fin 31 => Ψ (kcell (c, k))) = iprop(Ψ (barC c) ∗ two fun s => iprop(Ψ (crdC s c)
      ∗ (bigSep Finset.univ fun h : Fin 7 => Ψ (sndC s h c)) ∗ (bigSep Finset.univ fun h : Fin 7 => Ψ (rcvC s h c)))) := by
  rw [split31]
  simp only [kcell, csem_crd, csem_snd, csem_rcv, csem_bar]

/-- The kernel's own semaphores: all but the barrier. -/
def osem (k : Fin 30) : SemLoc sig := csem k.succ

/-- The kernel's own semaphores are apart from the windows'. -/
theorem ownSemFacts : Pipeline.OwnSemFacts cfg0.spec osem := by decide

/-- A device's zero counters by kind. -/
theorem sems_eq (c : Dev nD) :
    iprop(Pipeline.ownSems0 (Ix := ℕ) (Name := ℕ) (U := UU) (Lvl := ℕ) (Val := Elt F) (τ := τ) osem c ∗ unscopedSems0 c)
      = (bigSep Finset.univ fun k : Fin 31 => semVal (kcell (c, k)) 0 : sProp 𝕄) := by
  have h1 : (unscopedSems0 c : sProp 𝕄) = semVal (barC c) 0 := by
    unfold unscopedSems0; rw [bigSep_eq_bigSepL_of_eq [SemLoc.reg barS] (by decide) (by decide)]; rfl
  rw [Pipeline.ownSems0_eq_of_list c osem [0, 1, 2, 3, 4, 5, 6, 7, 8, 9, 10, 11, 12, 13, 14, 15, 16, 17, 18, 19, 20, 21, 22, 23,
    24, 25, 26, 27, 28, 29] (by decide) (by decide), h1,
    bigSep_univ_eq_bigSepL [0, 1, 2, 3, 4, 5, 6, 7, 8, 9, 10, 11, 12, 13, 14, 15, 16, 17, 18, 19, 20, 21, 22, 23,
    24, 25, 26, 27, 28, 29, 30] (by decide) (by decide)]
  exact _root_.Std.Commutative.comm (op := (BIBase.sep : sProp 𝕄 → sProp 𝕄 → sProp 𝕄)) _ _

/-! ## What the launch makes -/

/-- Different devices or numbers name different cells. -/
theorem kcell_injective : Function.Injective (kcell : Dev nD × Fin 31 → GSem nD τ sig) := by
  have hs : ∀ k k' : Fin 31, csem k = csem k' → k = k' := by decide
  rintro ⟨c, k⟩ ⟨c', k'⟩ h
  have h1 : c = c' := congrArg (fun g : GSem nD τ sig => g.1.1) h
  have h2 : k = k' := hs k k' (congrArg Prod.snd h)
  rw [h1, h2]
def ringCells : Finset (GSem nD τ sig) := Finset.univ.map ⟨kcell, kcell_injective⟩

/-- A token for each cell and each of the five possible duties. -/
abbrev tokOf (x : (Dev nD × Fin 31) × Fin 5) : GSem nD τ sig × ℕ × Fin 5 := (kcell x.1, 0, x.2)
/-- Different tokens have different names. -/
theorem tokOf_injective : Function.Injective tokOf := by
  rintro ⟨ck, j⟩ ⟨ck', j'⟩ h
  have h1 : ck = ck' := kcell_injective (congrArg Prod.fst h)
  have h2 : j = j' := congrArg (fun x : GSem nD τ sig × ℕ × Fin 5 => x.2.2) h
  rw [h1, h2]
def ringToks : Finset (GSem nD τ sig × ℕ × Fin 5) := Finset.univ.map ⟨tokOf, tokOf_injective⟩

def slots₀ : UK := Release.initSlots (Finset.univ : Finset Key) 1

def u₀ : UU :=
  (initOf (Pipeline.cells cfgs cellOf_inj) (Pipeline.launchToks cfgs cellOf_inj), (initOf ringCells ringToks, slots₀))

/-- The five tokens of a cell. -/
def tok5 (g : GSem nD τ sig) : sProp 𝕄 := bigSep Finset.univ fun d : Fin 5 => dutyTok ER g 0 d

/-- The slots' part, in the hands of one device until the dealing. -/
def slotG (c : Dev nD) : sProp 𝕄 := if c = (⟨0, by decide⟩ : Dev nD) then BI.own (ES slots₀) else iprop(emp)

/-- What the launch's element deals device `c`. -/
def G (c : Dev nD) : sProp 𝕄 :=
  iprop((bigSep Finset.univ fun k : Fin 31 => roundState ER (rd m) (kcell (c, k)) 0)
    ∗ (bigSep Finset.univ fun k : Fin 31 => reached ER (kcell (c, k)) 0)
    ∗ (bigSep Finset.univ fun k : Fin 31 => atPos ER (kcell (c, k)) 0 ∅ 0)
    ∗ (bigSep Finset.univ fun k : Fin 31 => tok5 (kcell (c, k))) ∗ slotG c)

/-- Device 0 starts with the slots' ghost state, -/
theorem slotG_zero : (slotG (⟨0, by decide⟩ : Dev nD) : sProp 𝕄) = BI.own (ES slots₀) := if_pos rfl

/-- the others with none of it, -/
theorem slotG_intro : (BI.own (ES slots₀) : sProp 𝕄) ⊢ bigSep Finset.univ fun c : Dev nD => slotG c := by
  refine Entails.of_eq ?_
  rw [bigSep_univ_at _ (⟨0, by decide⟩ : Dev nD), slotG_zero,
    show (bigSep (Finset.univ.erase (⟨0, by decide⟩ : Dev nD)) fun c => (slotG c : sProp 𝕄)) = BI.emp from
      (bigSep_congr fun c hc => (if_neg (Finset.ne_of_mem_erase hc) : slotG c = (BI.emp : sProp 𝕄))).trans (bigSep_emp_const _)]
  exact (equiv_iff.mp BI.sep_emp).symm

/-- and taken back. -/
theorem slotG_elim : (bigSep Finset.univ fun c : Dev nD => slotG c) ⊢ (BI.own (ES slots₀) : sProp 𝕄) :=
  (bigSep_elim (Finset.mem_univ (⟨0, by decide⟩ : Dev nD))).trans (Entails.of_eq slotG_zero)

/-- The ghost state at the start gives each device its share. -/
theorem fund_all : (BI.own (EB (initOf ringCells ringToks, slots₀)) : sProp 𝕄) ⊢ |==> bigSep Finset.univ (G m) := by
  have hX (Φ : GSem nD τ sig → sProp 𝕄) : bigSep ringCells Φ = bigSep Finset.univ fun c : Dev nD => bigSep Finset.univ fun k : Fin 31 => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun k : Fin 31 => tok5 (kcell (c, k)) := by
    unfold ringToks; rw [bigSep_map, bigSep_univ_prod, bigSep_univ_prod]; rfl
  iintro HU
  ihave H := (own_pair_emb (EB (F := F)) _ _) $$ HU
  icases H with ⟨HX, HS⟩
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS' := (slotG_intro (F := F)) $$ HS
  unfold G; simp only [bigSep_sep']
  isplitl [Hst']; · iexact Hst'
  isplitl [Hr']; · iexact Hr'
  isplitl [Hat']; · iexact Hat'
  isplitl [Htok']; · iexact Htok'
  iexact HS'

/-! ## What a device has of it -/

/-- What stays with the device: its places in its own cells and the tokens of its own copies' sends, -/
def stay (s : Bool) (c : Dev nD) : sProp 𝕄 :=
  iprop(atPos ER (crdC s c) 0 ∅ 0 ∗ (bigSep Finset.univ fun h : Fin 7 => atPos ER (sndC s h c) 0 ∅ 0)
    ∗ (bigSep Finset.univ fun h : Fin 7 => dutyTok ER (sndC s h c) 0 0) ∗ (bigSep Finset.univ fun h : Fin 7 => atPos ER (rcvC s h c) 0 ∅ 0))
/-- the tokens of its barrier and credit cells, for the device ahead, -/
def ahead (s : Bool) (c : Dev nD) : sProp 𝕄 :=
  iprop(dutyTok ER (barC c) 0 (bd s) ∗ (bigSep Finset.univ fun j : Fin 5 => dutyTok ER (crdC s c) 0 j))
/-- the tokens of its receive cells, for the device behind, -/
def behind (s : Bool) (c : Dev nD) : sProp 𝕄 := bigSep Finset.univ fun h : Fin 7 => dutyTok ER (rcvC s h c) 0 0
/-- its counts of the slots it gives up, -/
def hand (s : Bool) (c : Dev nD) : sProp 𝕄 := bigSep Finset.univ fun j : Fin 5 => Release.readerAt ES ((c, s, j) : Key) 0
/-- and the tokens of the writes to them, for the device behind. -/
def pen (s : Bool) (c : Dev nD) : sProp 𝕄 := bigSep Finset.univ fun j : Fin 5 => Release.writeTok ES ((c, s, j) : Key) 1

def own₀ (c : Dev nD) : sProp 𝕄 := iprop(atPos ER (barC c) 0 ∅ 0 ∗ two fun s => iprop(stay s c ∗ ahead s c ∗ behind s c))

/-- What device `c` holds after the dealing. -/
def linear (c : Dev nD) : sProp 𝕄 :=
  iprop(atPos ER (barC c) 0 ∅ 0 ∗ two fun s => iprop(stay s c ∗ ahead s (bwd s c) ∗ behind s (fwd s c) ∗ hand s c ∗ pen s (fwd s c)))

/-- One of a cell's five tokens. -/
theorem tok5_elim (g : GSem nD τ sig) (d : Fin 5) : tok5 g ⊢ (dutyTok ER g 0 d : sProp 𝕄) := bigSep_elim (Finset.mem_univ d)

/-- The barrier's two tokens. -/
theorem tok5_bar (g : GSem nD τ sig) : tok5 g ⊢ iprop((dutyTok ER g 0 (bd false) : sProp 𝕄) ∗ dutyTok ER g 0 (bd true)) := by
  unfold tok5; rw [bigSep_five]
  iintro ⟨H0, H1, -⟩
  isplitl [H0]; · iexact H0
  iexact H1

/-- A device's own tokens and counters by kind. -/
theorem own_deal (c : Dev nD) :
    iprop((bigSep Finset.univ fun k : Fin 31 => atPos ER (kcell (c, k)) 0 ∅ 0) ∗ (bigSep Finset.univ fun k : Fin 31 => tok5 (kcell (c, k))))
      ⊢ (own₀ c : sProp 𝕄) := by
  rw [split_cells (fun g => atPos ER g 0 ∅ 0) c, split_cells tok5 c]
  have hs (s : Bool) : (bigSep Finset.univ fun h : Fin 7 => (tok5 (sndC s h c) : sProp 𝕄)) ⊢ bigSep Finset.univ fun h : Fin 7 => dutyTok ER (sndC s h c) 0 0 :=
    bigSep_mono fun h _ => tok5_elim _ 0
  have hr (s : Bool) : (bigSep Finset.univ fun h : Fin 7 => (tok5 (rcvC s h c) : sProp 𝕄)) ⊢ bigSep Finset.univ fun h : Fin 7 => dutyTok ER (rcvC s h c) 0 0 :=
    bigSep_mono fun h _ => tok5_elim _ 0
  unfold own₀ two stay ahead behind
  iintro ⟨⟨Hb, ⟨Af, Sf, Rf⟩, ⟨At, St, Rt⟩⟩, ⟨Tb, ⟨Tf, Uf, Vf⟩, ⟨Tt, Ut, Vt⟩⟩⟩
  ihave Tb' := (tok5_bar (F := F) (barC c)) $$ Tb
  icases Tb' with ⟨Tb0, Tb1⟩
  ihave Uf := (hs false) $$ Uf
  ihave Ut := (hs true) $$ Ut
  ihave Vf := (hr false) $$ Vf
  ihave Vt := (hr true) $$ Vt
  unfold tok5
  isplitl [Hb]; · iexact Hb
  isplitl [Af Sf Rf Tb0 Tf Uf Vf]
  · isplitl [Af Sf Uf Rf]
    · isplitl [Af]; · iexact Af
      isplitl [Sf]; · iexact Sf
      isplitl [Uf] <;> iassumption
    isplitl [Tb0 Tf]
    · isplitl [Tb0] <;> iassumption
    iexact Vf
  · isplitl [At St Ut Rt]
    · isplitl [At]; · iexact At
      isplitl [St]; · iexact St
      isplitl [Ut] <;> iassumption
    isplitl [Tb1 Tt]
    · isplitl [Tb1] <;> iassumption
    iexact Vt

/-! ## The dealing -/

/-- A device's zero counters and ghost share become its cells' schedules. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Fin 31 => know m (kcell (c, k))) ∗ own₀ c ∗ slotG c) := by
  unfold G
  iintro ⟨Hos, Hus, Hst, Hr, Hat, Htok, Hsl⟩
  ihave Hv := (Entails.of_eq (sems_eq (F := F) c)) $$ [Hos Hus]
  · isplitl [Hos] <;> iassumption
  imod (show iprop((bigSep Finset.univ fun k : Fin 31 => semVal (kcell (c, k)) 0) ∗ bigSep Finset.univ fun k : Fin 31 => roundState ER (rd m) (kcell (c, k)) 0)
      ⊢ (|={Set.univ}=> bigSep Finset.univ fun k : Fin 31 => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv Hr]
  · unfold know; rw [bigSep_sep']
    isplitl [Hinv] <;> iassumption
  isplitl [Hat Htok]
  · iapply (own_deal (F := F) c)
    isplitl [Hat] <;> iassumption
  iexact Hsl

/-- What everybody may know, but for the levels. -/
def Know : sProp 𝕄 :=
  iprop(bigSep Finset.univ (fun ck : Dev nD × Fin 31 => know m (kcell ck)) ∗ bigSep Finset.univ (fun k : Key => knowSlot k))
instance Know_persistent : BI.Persistent (Know m) := by unfold Know; infer_instance

/-- What the dealing leaves device `c`. -/
def G' (c : Dev nD) : sProp 𝕄 := iprop(Know m ∗ linear c)

/-- The slots' invariants, and the write and release tokens of each slot. -/
theorem slots_alloc : (BI.own (ES slots₀) : sProp 𝕄)
    ⊢ |={Set.univ}=> iprop(bigSep Finset.univ (fun k : Key => knowSlot k) ∗ (bigSep Finset.univ fun c : Dev nD => two fun s => hand s c)
        ∗ (bigSep Finset.univ fun c : Dev nD => two fun s => pen s c)) := by
  have hK (Φ : Key → sProp 𝕄) : bigSep Finset.univ Φ = bigSep Finset.univ fun c : Dev nD => two fun s => bigSep Finset.univ fun j : Fin 5 => Φ (c, s, j) := by
    rw [bigSep_univ_prod]
    refine bigSep_congr fun c _ => ?_
    rw [bigSep_univ_prod, bigSep_univ_eq_bigSepL [false, true] (by decide) (by decide)]
    rfl
  have hP : (Finset.univ ×ˢ Finset.range 1 : Finset (Key × ℕ)) = Finset.univ.map ⟨fun k => (k, 0), fun a b h => congrArg Prod.fst h⟩ := by
    ext ⟨k, n⟩
    constructor
    · intro h
      have h0 : n = 0 := by have := Finset.mem_range.1 (Finset.mem_product.1 h).2; omega
      subst h0
      exact Finset.mem_map.2 ⟨k, Finset.mem_univ _, rfl⟩
    · intro h
      obtain ⟨a, -, h⟩ := Finset.mem_map.1 h
      have h0 : 0 = n := congrArg Prod.snd h
      exact Finset.mem_product.2 ⟨Finset.mem_univ _, Finset.mem_range.2 (by show n < 1; omega)⟩
  have hN (ιs : Key → ℕ) (k : Key) : Release.slotInv ES (ιs k) k (slotK k) ⊢ (knowSlot k : sProp 𝕄) := by
    unfold knowSlot
    iintro H
    iexists (ιs k); iexact H
  unfold slots₀
  iintro H
  imod (Release.slots_init ES (Finset.univ : Finset Key) 1 (fun k => slotK k)) $$ H with ⟨%ιs, -, Hi, Hh, Hp⟩
  imodintro
  isplitl [Hi]
  · iapply (show (bigSep Finset.univ fun k : Key => Release.slotInv ES (ιs k) k (slotK k)) ⊢ (bigSep Finset.univ (fun k : Key => knowSlot k) : sProp 𝕄) from
      bigSep_mono fun k _ => hN ιs k)
    iexact Hi
  isplitl [Hh]
  · iapply (Entails.of_eq (hK fun k => Release.readerAt ES k 0)); iexact Hh
  · iapply (Entails.of_eq (hK fun k => Release.writeTok ES k 1))
    iapply (show (bigSep (Finset.univ ×ˢ Finset.range 1) fun x : Key × ℕ => Release.writeTok ES x.1 (x.2 + 1))
        ⊢ (bigSep Finset.univ (fun k : Key => Release.writeTok ES k 1) : sProp 𝕄) from Entails.of_eq (by rw [hP, bigSep_map]; rfl))
    iexact Hp

/-- The tokens go round the rings to those who use them. -/
theorem around :
    iprop((bigSep Finset.univ fun c : Dev nD => own₀ c) ∗ (bigSep Finset.univ fun c : Dev nD => two fun s => hand s c)
        ∗ (bigSep Finset.univ fun c : Dev nD => two fun s => pen s c))
      ⊢ (bigSep Finset.univ fun c : Dev nD => linear c : sProp 𝕄) := by
  have ha (s : Bool) : (bigSep Finset.univ fun c : Dev nD => (ahead s c : sProp 𝕄)) = bigSep Finset.univ fun c : Dev nD => ahead s (bwd s c) :=
    bigSep_univ_equiv (ringE s).symm _
  have hb (s : Bool) : (bigSep Finset.univ fun c : Dev nD => (behind s c : sProp 𝕄)) = bigSep Finset.univ fun c : Dev nD => behind s (fwd s c) :=
    bigSep_univ_equiv (ringE s) _
  have hp (s : Bool) : (bigSep Finset.univ fun c : Dev nD => (pen s c : sProp 𝕄)) = bigSep Finset.univ fun c : Dev nD => pen s (fwd s c) :=
    bigSep_univ_equiv (ringE s) _
  unfold own₀ linear two
  simp only [bigSep_sep']
  rw [ha false, ha true, hb false, hb true, hp false, hp true]
  iintro ⟨⟨H1, ⟨Sf, Af, Bf⟩, ⟨St, At, Bt⟩⟩, ⟨Hf, Ht⟩, ⟨Pf, Pt⟩⟩
  isplitl [H1]; · iexact H1
  isplitl [Sf Af Bf Hf Pf]
  · isplitl [Sf]; · iexact Sf
    isplitl [Af]; · iexact Af
    isplitl [Bf]; · iexact Bf
    isplitl [Hf] <;> iassumption
  · isplitl [St]; · iexact St
    isplitl [At]; · iexact At
    isplitl [Bt]; · iexact Bt
    isplitl [Ht] <;> iassumption

/-- What all devices own, dealt to the neighbours that use it. -/
theorem regroup :
    (bigSep Finset.univ fun c : Dev nD => iprop((bigSep Finset.univ fun k : Fin 31 => know m (kcell (c, k))) ∗ own₀ c ∗ slotG c) : sProp 𝕄)
      ⊢ |={Set.univ}=> bigSep Finset.univ (G' m) := by
  rw [bigSep_sep', bigSep_sep', ← bigSep_univ_prod (fun ck : Dev nD × Fin 31 => know m (kcell ck))]
  iintro ⟨HI, Hown, Hsl⟩
  ihave Hs := (slotG_elim (F := F)) $$ Hsl
  imod (slots_alloc (F := F)) $$ Hs with ⟨HK, Hh, Hp⟩
  ihave Hlin := (around (F := F)) $$ [Hown Hh Hp]
  · isplitl [Hown]; · iexact Hown
    isplitl [Hh] <;> iassumption
  imodintro
  iapply (show iprop(Know m ∗ bigSep Finset.univ (fun c : Dev nD => linear c)) ⊢ (bigSep Finset.univ (G' m) : sProp 𝕄) from
    (sep_mono_left (BI.bigSep_of_persistent Finset.univ (Know m))).trans (by rw [← bigSep_sep']; exact bigSep_mono fun c _ => BI.Entails.refl _))
  isplitl [HI HK]
  · unfold Know
    isplitl [HI] <;> iassumption
  iexact Hlin

/-- The dealing, over all devices at once. -/
theorem glob : (bigSep Finset.univ fun c => iprop(Pipeline.ownSems0 (Ix := ℕ) (Name := ℕ) (U := UU) (Lvl := ℕ) (Val := Elt F) (τ := τ) osem c
      ∗ unscopedSems0 c ∗ G m c) : sProp 𝕄) ⊢ |={Set.univ}=> bigSep Finset.univ (G' m) := by
  refine ((bigSep_mono fun c _ => core_alloc m c).trans (bigSep_fupd _ _)).trans ?_
  refine (BI.fupd_mono (regroup m)).trans ?_
  iintro H
  imod H with H
  imod H with H
  imodintro
  iexact H

/-! ## The credits -/

/-- The credit of each due of a list, on device `c`'s own cells. -/
def credL (c : Dev nD) : List Due → sProp 𝕄
  | [] => iprop(emp)
  | x :: l => iprop(credL c l ∗ cred (tallyAt ((c : Thread nD τ), x.sm) x.ι x.n))

/-- The credits the launch gives a device for one list of dues. -/
theorem launch_credL (c : Dev nD) (l : List Due) : (Pipeline.launchCred (fun d => sumD d l) c : sProp 𝕄) ⊢ credL c l := by
  induction l with
  | nil => exact Entails.of_eq (Pipeline.launchCred_zero c)
  | cons x l ih =>
    show (Pipeline.launchCred (fun d => sumD d l + x.tally d) c : sProp 𝕄) ⊢ iprop(credL c l ∗ cred (tallyAt ((c : Thread nD τ), x.sm) x.ι x.n))
    rw [Pipeline.launchCred_add (fun d => sumD d l) (fun d => x.tally d) c]
    exact BI.sep_mono ih (Pipeline.launchCred_tallyAt x.sm (fwd x.dir) (bwd x.dir) (fwd_bwd x.dir) (bwd_fwd x.dir) x.ι x.n c)

/-- The credits of ring `s` on device `c`. -/
def credR (s : Bool) (c : Dev nD) : sProp 𝕄 :=
  iprop((bigSep Finset.univ fun h : Fin 7 => cred (tallyAt (rcvC s h c) 0 (N s)))
    ∗ (bigSep Finset.univ fun j : Fin 5 => cred (tallyAt (crdC s c) j.val 1)))

/-- The credits the launch gives a device, by kind. -/
theorem creds (c : Dev nD) : (Pipeline.launchCred (fun d => sumD d allDs) c : sProp 𝕄)
    ⊢ iprop(cred (tallyAt (barC c) 0 2) ∗ two fun s => credR s c) := by
  refine (launch_credL c allDs).trans ?_
  have h : (credL c allDs : sProp 𝕄) = iprop((cred (tallyAt (barC c) 0 1) ∗ cred (tallyAt (barC c) 0 1)) ∗ two fun s => credR s c) := by
    unfold two credR
    simp only [bigSep_seven, bigSep_five]
    show credL c [barD false, barD true, rcvD false 0, rcvD true 0, crdD false 0, crdD true 0, rcvD false 1, rcvD true 1, crdD false 1, crdD true 1,
      rcvD false 2, rcvD true 2, crdD false 2, crdD true 2, rcvD false 3, rcvD true 3, crdD false 3, crdD true 3, rcvD false 4, rcvD true 4,
      crdD false 4, crdD true 4, rcvD false 5, rcvD true 5, rcvD false 6, rcvD true 6] = _
    simp only [credL, barD, rcvD, crdD, barC, rcvC, crdC, emp_sep_eq]
    ac_rfl
  rw [h]
  exact sep_mono_left (((cred_add _ _).2).trans (Entails.of_eq (by rw [tallyAt_add])))

/-! ## What the body starts from -/

/-- What a device needs, put together. -/
theorem res_intro (c : Dev nD) :
    iprop(linear c ∗ cred (tallyAt (barC c) 0 2) ∗ two fun s => credR s c) ⊢ (Res c : sProp 𝕄) := by
  unfold linear Res Pk Ck Cw two credR stay ahead behind hand pen
  simp only [bigSep_sep']
  iintro ⟨⟨Hb, ⟨⟨Cf, Sf, Tf, Rf⟩, ⟨Bf, Df⟩, Vf, Hf, Wf⟩, ⟨⟨Ct, St, Tt, Rt⟩, ⟨Bt, Dt⟩, Vt, Ht, Wt⟩⟩, Kb, ⟨Kf, Jf⟩, ⟨Kt, Jt⟩⟩
  isplitl [Hb]; · iexact Hb
  isplitl [Kb]; · iexact Kb
  isplitl [Bf Bt]
  · isplitl [Bf] <;> iassumption
  isplitl [Cf Ct]
  · isplitl [Cf] <;> iassumption
  isplitl [Sf Tf Vf Rf Kf St Tt Vt Rt Kt]
  · isplitl [Sf Tf Vf Rf Kf]
    · isplitl [Sf Tf Vf]
      · isplitl [Sf]; · iexact Sf
        isplitl [Tf] <;> iassumption
      isplitl [Rf] <;> iassumption
    · isplitl [St Tt Vt]
      · isplitl [St]; · iexact St
        isplitl [Tt] <;> iassumption
      isplitl [Rt] <;> iassumption
  isplitl [Hf Df Ht Dt]
  · isplitl [Hf Df]
    · isplitl [Hf] <;> iassumption
    · isplitl [Ht] <;> iassumption
  · isplitl [Jf Wf]
    · isplitl [Jf] <;> iassumption
    · isplitl [Jt] <;> iassumption

end Cert.KernelIdeal.Hand

end
-- ==== Proof.KernelIdeal.Launch.lean ====
/-
  The launch: eight devices, one kernel each, from any memory with all semaphores at zero.
-/
module

public import proofs.«01_k».proof.Proof.KernelIdeal.Ghost
public import proofs.«01_k».proof.Proof.Gen.KernelIdeal.Points
public import Idealize.ShloMosaic.Lib.Pipeline.CollectiveSegs

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (ρ : Dev nD → PrngReg)

/-- The memory at launch: any buffers, every counter at zero. -/
def s₀ : MemSt nD τ sig (Elt F) := ⟨m, fun _ => 0, ρ⟩

/-! ## What the kernel's one grid point starts from and ends in -/

/-- What a device starts with, its own buffers aside. -/
def entry (c : Dev nD) : sProp 𝕄 := iprop(Rec m ∗ Res c)

def Φ₀ (c : Dev nD) : sProp 𝕄 := iprop(entry m c ∗ (two fun s => scr s c) ∗ vAny c)
def Φ₁ (c : Dev nD) : sProp 𝕄 :=
  iprop(semVal (barC c) 0 ∗ (two fun s => semVal (crdC s c) 0)
    ∗ (bigSep Finset.univ fun h : Fin 7 => iprop(Zs c h ∗ Zr c h)) ∗ (two fun s => scr s c) ∗ vAny c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => sumD c allDs
    | ⟨_ + 1, _⟩ => 0

/-- Owning a whole array is a points-to. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt 0 t0_0.succ ∗ stg c cc0_stg0_0 (xstg m c) ∗ stg c cc0_stg1_0 (wstg m c) ∗ stg c cc0_stg2_0 (outAt m c))

/-- The kernel's body meets its specification. -/
theorem sound_body (c : Dev nD) : bodyPre m ρ c ⊢ wpc c (body (F := F)) (fun _ => bodyPost m ρ c) := by
  unfold bodyPre Φ₀ entry
  iintro ⟨⟨⟨HR, Hres⟩, Hscr, Hv⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t0_0)]; rfl
  subst hx
  have hw : g1 = wstg m c := by rw [hg1]; unfold Dat.before; rw [if_pos (fetch0_1 t0_0)]; rfl
  subst hw
  unfold Dat.owesAt Pipeline.owesWithin
  icases Ho with ⟨%W, %hW, HO⟩
  rw [show (dats m ρ 0 c).owed t0_0.castSucc = sumD c allDs from rfl]
  iapply (step_last (body_step m c)) $$ [HR Hres Hscr Hv HO Hx Hw Hout]
  · isplitl [HR]; · iexact HR
    isplitl [HO]; · unfold OW; iexists W; iexact HO
    isplitl [Hres]; · iexact Hres
    isplitl [Hscr]; · iexact Hscr
    isplitl [Hv]; · iexact Hv
    isplitl [Hx]; · unfold xSt; iexact Hx
    isplitl [Hw]; · unfold wSt; iexact Hw
    unfold oAny; iexists g2; iexact Hout
  iintro ⟨HO, Hz, Hc, Hzz, Hscr, Hv, Hx, Hw, Hout⟩
  unfold bodyPost Φ₁ Dat.owesAt Pipeline.owesWithin
  rw [show (dats m ρ 0 c).owed t0_0.succ = 0 from rfl]
  isplitl [Hz Hc Hzz Hscr Hv]
  · isplitl [Hz]; · iexact Hz
    isplitl [Hc]; · iexact Hc
    isplitl [Hzz]; · iexact Hzz
    isplitl [Hscr] <;> iassumption
  isplitl [HO]
  · unfold OW
    icases HO with ⟨%W', HO⟩
    iexists W'
    isplitr; · ipureintro; exact fun _ _ => Or.inl trivial
    rw [show (0 : CellTallies nD τ sig ℕ) = sumD c [] from rfl]
    iexact HO
  isplitl [Hx]
  · iexists _; isplitr; · (ipureintro; rfl)
    unfold xSt; iexact Hx
  isplitl [Hw]
  · iexists _; isplitr; · (ipureintro; rfl)
    unfold wSt; iexact Hw
  iexists _; isplitr; · (ipureintro; rfl)
  unfold oSt; iexact Hout

set_option maxRecDepth 65536 in
/-- The library's body obligation on device `c`. -/
theorem body_obligation (c : Dev nD) : BodyObligation (dats (F := F) m ρ 0 c) (defs₀ (F := F)) 𝒱₀ 0 Set.univ := fun t => by
  rw [fin_N0 t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  simp only [owns_whole_eq]
  show bodyPre m ρ c ⊢ wp frame (wpE (defs₀ (F := F)) 𝒱₀ (c : Thread nD τ) none) Set.univ
    (cc0_body (F := F) xM (Memref.isWhole_whole _) wM (Memref.isWhole_whole _) oM (Memref.isWhole_whole _)
      aM (Memref.isWhole_whole _) bM (Memref.isWhole_whole _) vM (Memref.isWhole_whole _)
      cc0_scratch3 cc0_scratch4 cc0_scratch5 cc0_scratch6 cc0_scratch7 cc0_scratch8) (fun _ => bodyPost m ρ c)
  rw [body_eq]
  exact sound_body m ρ c

/-! ## The side conditions of the launch -/

/-- Every array is held whole. -/
theorem share_eq (c : Dev nD) (w : Fin cfg0.W) : (dats m ρ 0 c).share w = fullShare := by unfold Dat.share; split <;> rfl

/-- The launch gives a device what its kernel starts from. -/
theorem entry_intro (c : Dev nD) :
    iprop(Pipeline.unscopedRestP Pipeline.Prefetch.none cfg0.spec c (fun b => m ((c : Thread nD τ).loc b)) ∗ levAts L lv
        ∗ Pipeline.launchCred (fun d => sumD d allDs) c ∗ prngReg c (ρ c) ∗ G' m c)
      ⊢ |={Set.univ}=> iprop(entry m c ∗ emp) := by
  unfold entry Rec G' Know
  iintro ⟨-, Hlev, Hcr, -, ⟨Hk, Hs⟩, Hlin⟩
  ihave Hc := (creds (F := F) c) $$ Hcr
  icases Hc with ⟨Hb, Hr⟩
  imodintro
  isplitl
  · isplitl [Hk Hs Hlev]
    · isplitl [Hk]; · iexact Hk
      isplitl [Hs] <;> iassumption
    · iapply (res_intro (F := F) c)
      isplitl [Hlin]; · iexact Hlin
      isplitl [Hb] <;> iassumption
  · iempintro

/-- With its scratch buffers that is the first state. -/
theorem phi0_intro (c : Dev nD) :
    iprop(entry m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ two scr vAny
  iintro ⟨Hs, -, Ha, Hb, Hv⟩
  isplitl [Hs]; · iexact Hs
  isplitl [Ha Hb]
  · isplitl [Ha]; · iexact Ha
    iexact Hb
  iexact Hv

/-- The counters at zero, by kind, are the device's counters at zero. -/
theorem zeros_intro (c : Dev nD) :
    iprop(semVal (barC c) 0 ∗ (two fun s => semVal (crdC s c) 0) ∗ (bigSep Finset.univ fun h : Fin 7 => iprop(Zs c h ∗ Zr c h)))
      ⊢ iprop(Pipeline.ownSems0 (Ix := ℕ) (Name := ℕ) (U := UU) (Lvl := ℕ) (Val := Elt F) (τ := τ) osem c ∗ (unscopedSems0 c : sProp 𝕄)) := by
  rw [sems_eq, split_cells (fun g => semVal g 0) c]
  unfold Zs Zr two
  simp only [bigSep_sep']
  iintro ⟨Hb, ⟨Cf, Ct⟩, ⟨Sf, St⟩, ⟨Rf, Rt⟩⟩
  isplitl [Hb]; · iexact Hb
  isplitl [Cf Sf Rf]
  · isplitl [Cf]; · iexact Cf
    isplitl [Sf] <;> iassumption
  · isplitl [Ct]; · iexact Ct
    isplitl [St] <;> iassumption

/-- The last state gives back scratch buffers and zero counters. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  iintro ⟨Hz, Hc, Hzz, Hscr, Hv⟩
  ihave H := (zeros_intro (F := F) c) $$ [Hz Hc Hzz]
  · isplitl [Hz]; · iexact Hz
    isplitl [Hc] <;> iassumption
  icases H with ⟨Hos, Hus⟩
  isplitl [Hus]; · iexact Hus
  isplitl [Hos]; · iexact Hos
  unfold two scr vAny
  icases Hscr with ⟨Ha, Hb⟩
  isplitl [Ha]; · iexact Ha
  isplitl [Hb]; · iexact Hb
  iexact Hv

/-- The pipeline's own waits are below everything owed. -/
theorem waits (c : Dev nD) : (levAts L lv : sProp 𝕄) ⊢ Pipeline.cellsWaits cfgs (dats m ρ) 0 0 c :=
  Pipeline.cellsWaits_intro cfgs (dats m ρ) 0 0 c fun w s t => by
    have hr : rLv (role (.dma ((cfg0.win w).sem s))) 0 ≤ 0 := by revert w s; decide
    rcases t with ⟨_ | _, ht⟩
    · exact mayWait c _ 0 0 (by decide) hr allDs above_all
    · exact mayWait c _ 0 0 (by decide) hr [] (fun _ h => absurd h (List.not_mem_nil))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero, every fair execution of the eight devices' programs terminates with each
    device's arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => sumD d allDs) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := entry m) (Y := fun c => unscopedSems0 c) (Z := fun _ => iprop(emp))
    (hX := entry_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs are unchanged. -/
theorem finalA_x (c : Dev nD) : finalA m ρ c (0 : Fin 3) = m ((c : Thread nD τ).loc main_arg0) := (dats (F := F) m ρ 0 c).arrAt_in (0 : Fin 3) rfl _
/-- So are the weights. -/
theorem finalA_w (c : Dev nD) : finalA m ρ c (1 : Fin 3) = m ((c : Thread nD τ).loc main_arg1) := (dats (F := F) m ρ 0 c).arrAt_in (1 : Fin 3) rfl _

end Cert.KernelIdeal.Hand

end
-- ==== Proof.KernelIdeal.Value.lean ====
/-
  What the run leaves, at the ideal instance: device `c`'s result is its block of the reference's.
-/
module

public import proofs.«01_k».proof.Proof.KernelIdeal.Launch
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.IdealHost

@[expose] public section

noncomputable section

namespace Cert.KernelIdeal.Hand

open Cert.KernelIdeal Cert.KernelIdeal.Gen
open Idealize.ShloMosaic
open Idealize.ShloMosaic.TcCoe
open Idealize.SL.Sem
open Idealize.ShloMosaic.ValueIdx

section Arr

variable {F : FTy → Type} [FloatOps F]
variable (m : (ℓ : Loc nD τ sig) → Buf (Elt F) ℓ)
variable (ρ : Dev nD → PrngReg)

/-- The staged activation block is the device's argument. -/
theorem xstg_eq (c : Dev nD) : xstg m c = m ((c : Thread nD τ).loc main_arg0) := by
  unfold xstg
  exact Memref.read_access_unit_zero (Elt F) main_arg0 (off := fun a => 0 * _) (funext fun a => Nat.zero_mul _) _ _

/-- The staged weight block is the device's argument. -/
theorem wstg_eq (c : Dev nD) : wstg m c = m ((c : Thread nD τ).loc main_arg1) := by
  unfold wstg
  exact Memref.read_access_unit_zero (Elt F) main_arg1 (off := fun a => 0 * _) (funext fun a => Nat.zero_mul _) _ _

/-- The result array after the run. -/
theorem finalA_o (c : Dev nD) : finalA m ρ c (2 : Fin 3) = outAt m c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact Memref.write_access_unit_zero_univ (Elt F) main_v1 (off := fun a => 0 * _) (funext fun a => Nat.zero_mul _) _ _ _

/-- Row `r` of half `s` of device `d`'s block is row `256 s + r` of the block. -/
theorem half_apply (s : Bool) (d : Dev nD) (r : Fin 256) (k : Fin 4096) :
    half m s d (ix2 r k) = m ((d : Thread nD τ).loc main_arg0) (ix2 ⟨(if s then 256 else 0) + r.val, by split <;> omega⟩ k) := by
  cases s
  · show xM.view.readAt (Elt F) (xR false).toLoadRect (xstg m d) (ix2 r k) = _
    rw [xstg_eq]
    refine congrArg (m ((d : Thread nD τ).loc main_arg0)) (funext fun (a : Fin 2) => Fin.ext ?_)
    revert a; refine Fin.forall_fin_two.2 ?_
    refine ⟨?_, ?_⟩
    · show 0 + 1 * r.val = 0 + r.val
      omega
    · show 0 + 1 * k.val = k.val
      omega
  · show xM.view.readAt (Elt F) (xR true).toLoadRect (xstg m d) (ix2 r k) = _
    rw [xstg_eq]
    refine congrArg (m ((d : Thread nD τ).loc main_arg0)) (funext fun (a : Fin 2) => Fin.ext ?_)
    revert a; refine Fin.forall_fin_two.2 ?_
    refine ⟨?_, ?_⟩
    · show 256 + 1 * r.val = 256 + r.val
      omega
    · show 0 + 1 * k.val = k.val
      omega

end Arr

/-- One entry of a product of the kernel: the rectified sum of products. -/
theorem gemmX_apply (x : FVec Ideal S256x4096 .bf16) (w : Vec Ideal S4096x256 .bf16) (r l : Fin 256) :
    gemmX x w (ix2 r l) = max (∑ k : Fin 4096, x (ix2 r k) * w (ix2 k l)) 0 := by
  have h := Ideal.matmul_plain_apply (M := 256) (K := 4096) (N := 256) (φ₁ := .bf16) (φ₂ := .bf16) none x w
    (constant S256x256 .f32 0x00000000#32) r l
  have z : (constant S256x256 .f32 0x00000000#32 : FVec Ideal S256x256 .f32) (ix2 r l) = 0 := Ideal.ofBits_zero_f32
  rw [z, zero_add] at h
  show max (FloatOps.matmul (DotDims.plain 256 4096 256) none x w (constant S256x256 .f32 0x00000000#32) (ix2 r l)) (Ideal.ofBits .f32 0x00000000#32) = _
  rw [h, Ideal.ofBits_zero_f32]

/-- The reference's value: the whole product, rectified. -/
def refOut (X : Vec Ideal ⟨2, ![4096, 4096]⟩ .bf16) (W : Vec Ideal ⟨2, ![4096, 2048]⟩ .bf16) : FVec Ideal ⟨2, ![4096, 2048]⟩ .f32 :=
  fun i => max (∑ k : Fin 4096, X (ix2 (i 0) k) * W (ix2 k (i 1))) 0

/-- The reference's operations compute `refOut`. -/
theorem ref_eq (X : FVec Ideal ReferenceIdeal.S4096x4096 .bf16) (W : FVec Ideal ReferenceIdeal.S4096x2048 .bf16) :
    (maximumf (extf .f32 (truncf .bf16 (Host.dotGeneral ReferenceIdeal.dot_S4096x4096_S4096x2048_S4096x2048_1_0_0_1_n_n none X W)
        ReferenceIdeal.Facts₀.bitsLt_bf16_f32) ReferenceIdeal.Facts₀.bitsLt_bf16_f32)
      (broadcastInDim ReferenceIdeal.S4096x2048 ![] ReferenceIdeal.Facts₀.bcast_S_S4096x2048 (constant ReferenceIdeal.S_ .f32 0x00000000#32))
        : FVec Ideal ReferenceIdeal.S4096x2048 .f32) = refOut X W := by
  funext i
  have h := StackMember.dotGeneral_plain_apply (m := 4096) (k := 4096) (n := 2048) (φ₁ := .bf16) (φ₂ := .bf16) none X W (i 0) (i 1)
  show max (Host.dotGeneral (DotDims.plain 4096 4096 2048) none X W i) (Ideal.ofBits .f32 0x00000000#32) = _
  rw [Ideal.ofBits_zero_f32]
  refine congrArg (max · 0) (Eq.trans (congrArg _ (eq_ix2 i)) h)

/-- Device `c`'s result is its block of columns of the reference's value. -/
theorem out_block (m : (ℓ : Loc nD τ sig) → Buf (Elt Ideal) ℓ)
    (X : Vec Ideal ⟨2, ![4096, 4096]⟩ .bf16) (W : Vec Ideal ⟨2, ![4096, 2048]⟩ .bf16)
    (hX : ∀ c : Dev nD, m ((c : Thread nD τ).loc main_arg0) = Layout.block ⟨2, ![512, 4096]⟩ ⟨2, ![4096, 4096]⟩ 0 8 c X)
    (hW : ∀ c : Dev nD, m ((c : Thread nD τ).loc main_arg1) = Layout.block ⟨2, ![4096, 256]⟩ ⟨2, ![4096, 2048]⟩ 1 8 c W)
    (c : Dev nD) : outAt m c = Layout.block ⟨2, ![4096, 256]⟩ ⟨2, ![4096, 2048]⟩ 1 8 c (refOut X W) := by
  funext i
  have h0 : (i 0).val < 4096 := (i 0).isLt
  have h1 : (i 1).val < 256 := (i 1).isLt
  have e : inBlk i = ix2 ⟨(i 0).val % 256, Nat.mod_lt _ (by decide)⟩ ⟨(i 1).val, h1⟩ := by
    funext a; revert a; rw [Fin.forall_fin_two]; exact ⟨rfl, rfl⟩
  show gemmX (half m (rowBlk i).1 (rowBlk i).2) (wstg m c) (inBlk i) = max (∑ k : Fin 4096, X (ix2 _ k) * W (ix2 k _)) 0
  rw [e, gemmX_apply]
  refine congrArg (max · 0) (Finset.sum_congr rfl fun k _ => ?_)
  rw [half_apply, wstg_eq, hX, hW]
  refine congrArg₂ (· * ·) (congrArg X (funext fun a => Fin.ext ?_)) (congrArg W (funext fun a => Fin.ext ?_))
  · revert a; rw [Fin.forall_fin_two]
    refine ⟨?_, rfl⟩
    show (i 0).val / 512 * 512 + ((if decide ((i 0).val / 256 % 2 = 1) then 256 else 0) + (i 0).val % 256) = (i 0).val
    by_cases hh : (i 0).val / 256 % 2 = 1
    · simp only [hh, decide_true, if_true]; omega
    · simp only [hh, decide_false, Bool.false_eq_true, if_false]; omega
  · revert a; rw [Fin.forall_fin_two]
    exact ⟨rfl, rfl⟩

end Cert.KernelIdeal.Hand

end
-- ==== Proof.lean ====
module

public import proofs.«01_k».proof.Proof.Gen.ReferenceIdeal.Run
public import proofs.«01_k».proof.Proof.Kernel.Launch
public import proofs.«01_k».proof.Proof.KernelIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The printed kernel: every fair execution on the eight devices terminates, leaves both argument arrays as they were
    and every semaphore counter at zero. -/
theorem frame_p : Cert.quiescent_Kernel := by
  intro m ρ _
  exact (θ_run Cert.Kernel.defs _ _).mono
    (fun _ h => ⟨fun c => ⟨(h.1 c (0 : Fin 3)).trans (Cert.Kernel.Hand.finalA_x m ρ c),
      (h.1 c (1 : Fin 3)).trans (Cert.Kernel.Hand.finalA_w m ρ c)⟩, h.2⟩)
    (Cert.Kernel.Hand.run_main (F := Bits) m ρ)

/-- The same of the kernel at the ideal instance. -/
theorem frame_pi : Cert.quiescent_KernelIdeal := by
  intro m ρ _
  exact (θ_run Cert.KernelIdeal.defs _ _).mono
    (fun _ h => ⟨fun c => ⟨(h.1 c (0 : Fin 3)).trans (Cert.KernelIdeal.Hand.finalA_x m ρ c),
      (h.1 c (1 : Fin 3)).trans (Cert.KernelIdeal.Hand.finalA_w m ρ c)⟩, h.2⟩)
    (Cert.KernelIdeal.Hand.run_main (F := Ideal) m ρ)

/-- The reference terminates and leaves its arguments; it has no semaphore. -/
theorem frame_ri : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- Over the extended reals each device's result is its block of columns of the reference's: the rectified product of
    the whole activation array with the whole weight array. -/
theorem alg : Cert.algebraic_KernelIdeal_ReferenceIdeal := by
  intro m ρ m' ρ' _ hb
  refine ⟨Cert.KernelIdeal.Hand.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨((h.1 c (2 : Fin 3)).trans (Cert.KernelIdeal.Hand.finalA_o m ρ c)).trans
          (Cert.KernelIdeal.Hand.out_block m _ _ (fun c => (hb c).1) (fun c => (hb c).2) c),
        (h.1 c (0 : Fin 3)).trans (Cert.KernelIdeal.Hand.finalA_x m ρ c),
        (h.1 c (1 : Fin 3)).trans (Cert.KernelIdeal.Hand.finalA_w m ρ c)⟩)
      (Cert.KernelIdeal.Hand.run_main (F := Ideal) m ρ)
  · exact (θ_run Cert.ReferenceIdeal.defs _ _).mono
      (fun _ h => ⟨((h 0).1).trans (Cert.KernelIdeal.Hand.ref_eq _ _), (h 0).2⟩)
      (Cert.ReferenceIdeal.Value.run (F := Ideal) m' ρ')

/-- All five claims. -/
theorem claim : Cert.Claim :=
  ⟨Cert.Kernel.Gen.facts, Cert.KernelIdeal.Gen.facts, Cert.ReferenceIdeal.Gen.facts, frame_p, frame_pi, frame_ri, trivial, alg⟩

end Cert.Proof

end
